-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S4096x4096 : Shape := ⟨2, ![4096, 4096]⟩
abbrev S2x512x2048 : Shape := ⟨3, ![2, 512, 2048]⟩
abbrev S2x512x4096 : Shape := ⟨3, ![2, 512, 4096]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S512x4096 : Shape := ⟨2, ![512, 4096]⟩
abbrev S1x512x4096 : Shape := ⟨3, ![1, 512, 4096]⟩

abbrev nBuf : Space → Nat
  | .hbm => 2
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .local _ .vmem, ⟨0, _⟩ => ⟨S2x512x2048, .f32⟩
  | .local _ .vmem, ⟨1, _⟩ => ⟨S2x512x2048, .f32⟩
  | .local _ .vmem, ⟨2, _⟩ => ⟨S2x512x2048, .bf16⟩
  | .local _ .vmem, ⟨3, _⟩ => ⟨S2x512x2048, .bf16⟩
  | .local _ .vmem, ⟨4, _⟩ => ⟨S2x512x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 3 12 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v17 : BitVec 32 := Scalar.muli v6 c2_i32_15
  let v18 : BitVec 32 := Scalar.addi c0_i32_16 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v19 : BitVec 32 := Scalar.muli v5 c1_i32_17
  let v20 : BitVec 32 := Scalar.addi v18 v19
  v20.toNat
def k0_dev4 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v47 : BitVec 32 := Scalar.muli v6 c2_i32_45
  let v48 : BitVec 32 := Scalar.addi c0_i32_46 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v49 : BitVec 32 := Scalar.muli v5 c1_i32_47
  let v50 : BitVec 32 := Scalar.addi v48 v49
  v50.toNat
def k0_dev5 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v66 : BitVec 32 := Scalar.muli v2 c2_i32_64
  let v67 : BitVec 32 := Scalar.addi c0_i32_65 v66
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_66 : BitVec 32 := 1#32
  let v68 : BitVec 32 := Scalar.muli v7 c1_i32_66
  let v69 : BitVec 32 := Scalar.addi v67 v68
  v69.toNat
def k0_dev6 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v78 : BitVec 32 := Scalar.muli v6 c2_i32_74
  let v79 : BitVec 32 := Scalar.addi c0_i32_75 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v80 : BitVec 32 := Scalar.muli v5 c1_i32_76
  let v81 : BitVec 32 := Scalar.addi v79 v80
  v81.toNat
def k0_dev7 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v104 : BitVec 32 := Scalar.muli v2 c2_i32_98
  let v105 : BitVec 32 := Scalar.addi c0_i32_99 v104
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_100 : BitVec 32 := 1#32
  let v106 : BitVec 32 := Scalar.muli v7 c1_i32_100
  let v107 : BitVec 32 := Scalar.addi v105 v106
  v107.toNat
def k0_dev8 (d0 : Dev nD) : Nat :=
  let c0_i32_132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_131 : BitVec 32 := 2#32
  let v136 : BitVec 32 := Scalar.muli v6 c2_i32_131
  let v137 : BitVec 32 := Scalar.addi c0_i32_132 v136
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v138 : BitVec 32 := Scalar.muli v5 c1_i32_133
  let v139 : BitVec 32 := Scalar.addi v137 v138
  v139.toNat
def k0_dev9 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v155 : BitVec 32 := Scalar.muli v2 c2_i32_150
  let v156 : BitVec 32 := Scalar.addi c0_i32_151 v155
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_152 : BitVec 32 := 1#32
  let v157 : BitVec 32 := Scalar.muli v7 c1_i32_152
  let v158 : BitVec 32 := Scalar.addi v156 v157
  v158.toNat
def k0_dev10 (d0 : Dev nD) : Nat :=
  let c0_i32_171 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_170 : BitVec 32 := 2#32
  let v172 : BitVec 32 := Scalar.muli v6 c2_i32_170
  let v173 : BitVec 32 := Scalar.addi c0_i32_171 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v174 : BitVec 32 := Scalar.muli v5 c1_i32_172
  let v175 : BitVec 32 := Scalar.addi v173 v174
  v175.toNat
def k0_dev11 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v198 : BitVec 32 := Scalar.muli v2 c2_i32_194
  let v199 : BitVec 32 := Scalar.addi c0_i32_195 v198
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_196 : BitVec 32 := 1#32
  let v200 : BitVec 32 := Scalar.muli v7 c1_i32_196
  let v201 : BitVec 32 := Scalar.addi v199 v200
  v201.toNat
def k0_dev12 (d0 : Dev nD) : Nat :=
  let c0_i32_243 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_242 : BitVec 32 := 2#32
  let v241 : BitVec 32 := Scalar.muli v6 c2_i32_242
  let v242 : BitVec 32 := Scalar.addi c0_i32_243 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v243 : BitVec 32 := Scalar.muli v5 c1_i32_244
  let v244 : BitVec 32 := Scalar.addi v242 v243
  v244.toNat
def k0_dev13 (d0 : Dev nD) : Nat :=
  let c0_i32_265 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_264 : BitVec 32 := 2#32
  let v260 : BitVec 32 := Scalar.muli v2 c2_i32_264
  let v261 : BitVec 32 := Scalar.addi c0_i32_265 v260
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_266 : BitVec 32 := 1#32
  let v262 : BitVec 32 := Scalar.muli v7 c1_i32_266
  let v263 : BitVec 32 := Scalar.addi v261 v262
  v263.toNat
def k0_dev14 (d0 : Dev nD) : Nat :=
  let c0_i32_285 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_284 : BitVec 32 := 2#32
  let v277 : BitVec 32 := Scalar.muli v6 c2_i32_284
  let v278 : BitVec 32 := Scalar.addi c0_i32_285 v277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_286 : BitVec 32 := 1#32
  let v279 : BitVec 32 := Scalar.muli v5 c1_i32_286
  let v280 : BitVec 32 := Scalar.addi v278 v279
  v280.toNat
def k0_dev15 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v303 : BitVec 32 := Scalar.muli v2 c2_i32_308
  let v304 : BitVec 32 := Scalar.addi c0_i32_309 v303
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_310 : BitVec 32 := 1#32
  let v305 : BitVec 32 := Scalar.muli v7 c1_i32_310
  let v306 : BitVec 32 := Scalar.addi v304 v305
  v306.toNat
def k0_dev16 (d0 : Dev nD) : Nat :=
  let c0_i32_357 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_356 : BitVec 32 := 2#32
  let v346 : BitVec 32 := Scalar.muli v6 c2_i32_356
  let v347 : BitVec 32 := Scalar.addi c0_i32_357 v346
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_358 : BitVec 32 := 1#32
  let v348 : BitVec 32 := Scalar.muli v5 c1_i32_358
  let v349 : BitVec 32 := Scalar.addi v347 v348
  v349.toNat
def k0_dev17 (d0 : Dev nD) : Nat :=
  let c0_i32_379 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_378 : BitVec 32 := 2#32
  let v365 : BitVec 32 := Scalar.muli v2 c2_i32_378
  let v366 : BitVec 32 := Scalar.addi c0_i32_379 v365
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_380 : BitVec 32 := 1#32
  let v367 : BitVec 32 := Scalar.muli v7 c1_i32_380
  let v368 : BitVec 32 := Scalar.addi v366 v367
  v368.toNat
def k0_dev18 (d0 : Dev nD) : Nat :=
  let c0_i32_399 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_398 : BitVec 32 := 2#32
  let v382 : BitVec 32 := Scalar.muli v6 c2_i32_398
  let v383 : BitVec 32 := Scalar.addi c0_i32_399 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_400 : BitVec 32 := 1#32
  let v384 : BitVec 32 := Scalar.muli v5 c1_i32_400
  let v385 : BitVec 32 := Scalar.addi v383 v384
  v385.toNat
def k0_dev19 (d0 : Dev nD) : Nat :=
  let c0_i32_423 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_422 : BitVec 32 := 2#32
  let v408 : BitVec 32 := Scalar.muli v2 c2_i32_422
  let v409 : BitVec 32 := Scalar.addi c0_i32_423 v408
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_424 : BitVec 32 := 1#32
  let v410 : BitVec 32 := Scalar.muli v7 c1_i32_424
  let v411 : BitVec 32 := Scalar.addi v409 v410
  v411.toNat
def k0_dev20 (d0 : Dev nD) : Nat :=
  let c0_i32_471 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_470 : BitVec 32 := 2#32
  let v451 : BitVec 32 := Scalar.muli v6 c2_i32_470
  let v452 : BitVec 32 := Scalar.addi c0_i32_471 v451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_472 : BitVec 32 := 1#32
  let v453 : BitVec 32 := Scalar.muli v5 c1_i32_472
  let v454 : BitVec 32 := Scalar.addi v452 v453
  v454.toNat
def k0_dev21 (d0 : Dev nD) : Nat :=
  let c0_i32_493 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_492 : BitVec 32 := 2#32
  let v470 : BitVec 32 := Scalar.muli v2 c2_i32_492
  let v471 : BitVec 32 := Scalar.addi c0_i32_493 v470
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_494 : BitVec 32 := 1#32
  let v472 : BitVec 32 := Scalar.muli v7 c1_i32_494
  let v473 : BitVec 32 := Scalar.addi v471 v472
  v473.toNat
def k0_dev22 (d0 : Dev nD) : Nat :=
  let c0_i32_513 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_512 : BitVec 32 := 2#32
  let v487 : BitVec 32 := Scalar.muli v6 c2_i32_512
  let v488 : BitVec 32 := Scalar.addi c0_i32_513 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_514 : BitVec 32 := 1#32
  let v489 : BitVec 32 := Scalar.muli v5 c1_i32_514
  let v490 : BitVec 32 := Scalar.addi v488 v489
  v490.toNat
def k0_dev23 (d0 : Dev nD) : Nat :=
  let c0_i32_537 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_536 : BitVec 32 := 2#32
  let v513 : BitVec 32 := Scalar.muli v2 c2_i32_536
  let v514 : BitVec 32 := Scalar.addi c0_i32_537 v513
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_538 : BitVec 32 := 1#32
  let v515 : BitVec 32 := Scalar.muli v7 c1_i32_538
  let v516 : BitVec 32 := Scalar.addi v514 v515
  v516.toNat
def k0_dev24 (d0 : Dev nD) : Nat :=
  let c0_i32_585 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_584 : BitVec 32 := 2#32
  let v556 : BitVec 32 := Scalar.muli v6 c2_i32_584
  let v557 : BitVec 32 := Scalar.addi c0_i32_585 v556
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_586 : BitVec 32 := 1#32
  let v558 : BitVec 32 := Scalar.muli v5 c1_i32_586
  let v559 : BitVec 32 := Scalar.addi v557 v558
  v559.toNat
def k0_dev25 (d0 : Dev nD) : Nat :=
  let c0_i32_607 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_606 : BitVec 32 := 2#32
  let v575 : BitVec 32 := Scalar.muli v2 c2_i32_606
  let v576 : BitVec 32 := Scalar.addi c0_i32_607 v575
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_608 : BitVec 32 := 1#32
  let v577 : BitVec 32 := Scalar.muli v7 c1_i32_608
  let v578 : BitVec 32 := Scalar.addi v576 v577
  v578.toNat
def k0_dev26 (d0 : Dev nD) : Nat :=
  let c0_i32_627 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_626 : BitVec 32 := 2#32
  let v592 : BitVec 32 := Scalar.muli v6 c2_i32_626
  let v593 : BitVec 32 := Scalar.addi c0_i32_627 v592
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_628 : BitVec 32 := 1#32
  let v594 : BitVec 32 := Scalar.muli v5 c1_i32_628
  let v595 : BitVec 32 := Scalar.addi v593 v594
  v595.toNat
def k0_dev27 (d0 : Dev nD) : Nat :=
  let c0_i32_651 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_650 : BitVec 32 := 2#32
  let v618 : BitVec 32 := Scalar.muli v2 c2_i32_650
  let v619 : BitVec 32 := Scalar.addi c0_i32_651 v618
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_652 : BitVec 32 := 1#32
  let v620 : BitVec 32 := Scalar.muli v7 c1_i32_652
  let v621 : BitVec 32 := Scalar.addi v619 v620
  v621.toNat
def k0_dev28 (d0 : Dev nD) : Nat :=
  let c0_i32_717 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_716 : BitVec 32 := 2#32
  let v676 : BitVec 32 := Scalar.muli v2 c2_i32_716
  let v677 : BitVec 32 := Scalar.addi c0_i32_717 v676
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_718 : BitVec 32 := 1#32
  let v678 : BitVec 32 := Scalar.muli v7 c1_i32_718
  let v679 : BitVec 32 := Scalar.addi v677 v678
  v679.toNat
def k0_dev29 (d0 : Dev nD) : Nat :=
  let c0_i32_737 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_736 : BitVec 32 := 2#32
  let v693 : BitVec 32 := Scalar.muli v6 c2_i32_736
  let v694 : BitVec 32 := Scalar.addi c0_i32_737 v693
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_738 : BitVec 32 := 1#32
  let v695 : BitVec 32 := Scalar.muli v5 c1_i32_738
  let v696 : BitVec 32 := Scalar.addi v694 v695
  v696.toNat
def k0_dev30 (d0 : Dev nD) : Nat :=
  let c0_i32_823 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_822 : BitVec 32 := 2#32
  let v773 : BitVec 32 := Scalar.muli v2 c2_i32_822
  let v774 : BitVec 32 := Scalar.addi c0_i32_823 v773
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_824 : BitVec 32 := 1#32
  let v775 : BitVec 32 := Scalar.muli v7 c1_i32_824
  let v776 : BitVec 32 := Scalar.addi v774 v775
  v776.toNat
-- ==== ReferenceIdeal.lean ====
abbrev S8192x4096 : Shape := ⟨2, ![8192, 4096]⟩
abbrev S2x4096x4096 : Shape := ⟨3, ![2, 4096, 4096]⟩
abbrev S_ : Shape := ⟨0, ![]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S_, .f32⟩
  | .hbm, ⟨3, _⟩ => ⟨S4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
  The kernel's body cut into pieces, each given once for a chunk number.

  The kernel works on eight chunks of 512 rows. Everything below is a function of the chunk number `k`: the rows
  `512 * k` of the operand and of the result, and slot `k % 2` of each double buffer. The chunk number is a natural
  number, read modulo 8 where rows are named, so that no bound has to be carried around.

  `body_eq` says that the printed body is the chain of these pieces.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.TwoRound

open Idealize.ShloMosaic Idealize.ShloMosaic.TcCoe
open Idealize.SL Idealize.SL.Sem
open Cert.KernelIdeal Cert.KernelIdeal.Gen

variable {F : FTy → Type} [FloatOps F]

/-- A program of the kernel's core. -/
abbrev PP (F : FTy → Type) (α : Type) : Type _ := Prog (TpuEff nD τ sig (Elt F) Λ₀ .tc) α

/-! ## Neighbours -/

/-- The device in the other row of the mesh and the same column. -/
def xn (c : Dev nD) : Dev nD := ⟨k0_dev1 c, k0_dev1_lt c⟩
/-- The device in the other column of the mesh and the same row. -/
def yn (c : Dev nD) : Dev nD := ⟨k0_dev2 c, k0_dev2_lt c⟩
/-- The device's column, as the word the kernel computes. -/
def ycol (c : Dev nD) : BitVec 32 := Scalar.remsi (Scalar.divsi (Dev.word c) 1#32) 2#32

/-! ## Slots and rows -/

/-- The slot of chunk `k`. -/
def sl (k : ℕ) : Fin 2 := ⟨k % 2, Nat.mod_lt _ (by decide)⟩
/-- The rows of chunk `k`. -/
def rw8 (k : ℕ) : Fin 8 := ⟨k % 8, Nat.mod_lt _ (by decide)⟩

theorem inb_slot (s : Fin 2) : ∀ a, (![s.val, 0, 0] : Fin 3 → Nat) a + S1x512x2048.size a ≤ S2x512x2048.size a := by
  revert s; decide
theorem inb_half (s h : Fin 2) : ∀ a, (![s.val, 0, 2048 * h.val] : Fin 3 → Nat) a + S1x512x2048.size a ≤ S2x512x4096.size a := by
  revert s h; decide
theorem inb_oslot (s : Fin 2) : ∀ a, (![s.val, 0, 0] : Fin 3 → Nat) a + S1x512x4096.size a ≤ S2x512x4096.size a := by
  revert s; decide
theorem inb_sem (s : Fin 2) : ∀ a, (![s.val] : Fin 1 → Nat) a + S1.size a ≤ S2.size a := by
  revert s; decide
theorem inb_xrow (j : Fin 8) : ∀ a, (![512 * j.val, 0] : Fin 2 → Nat) a + S512x2048.size a ≤ S4096x2048.size a := by
  revert j; decide
theorem inb_orow (j : Fin 8) : ∀ a, (![512 * j.val, 0] : Fin 2 → Nat) a + S512x4096.size a ≤ S4096x4096.size a := by
  revert j; decide

/-- One slot of a double buffer of half-width chunks. -/
abbrev slotR (s : Fin 2) : Rect S2x512x2048 := Rect.unit (s := S2x512x2048) ![s.val, 0, 0] S1x512x2048.size (inb_slot s)
/-- One half of one slot of the double buffer of whole-width chunks. -/
abbrev halfR (s h : Fin 2) : Rect S2x512x4096 := Rect.unit (s := S2x512x4096) ![s.val, 0, 2048 * h.val] S1x512x2048.size (inb_half s h)
/-- One slot of the double buffer of whole-width chunks. -/
abbrev oslotR (s : Fin 2) : Rect S2x512x4096 := Rect.unit (s := S2x512x4096) ![s.val, 0, 0] S1x512x4096.size (inb_oslot s)
/-- The rows of one chunk of the operand. -/
abbrev xrowR (j : Fin 8) : Rect S4096x2048 := Rect.unit (s := S4096x2048) ![512 * j.val, 0] S512x2048.size (inb_xrow j)
/-- The rows of one chunk of the result. -/
abbrev orowR (j : Fin 8) : Rect S4096x4096 := Rect.unit (s := S4096x4096) ![512 * j.val, 0] S512x4096.size (inb_orow j)

theorem packed_slot (s : Fin 2) : (slotR s).PackedRows (EltTy.packing .bf16) := by
  revert s; decide
theorem words_slot (s : Fin 2) : (slotR s).WholeWords (EltTy.packing .bf16) := by
  revert s; decide

/-! ## The buffers -/

abbrev xM : Memref sig .tc .hbm S4096x2048 .f32 := Memref.whole main_arg0
abbrev oM : Memref sig .tc .hbm S4096x4096 .f32 := Memref.whole main_v1
abbrev vxM : Memref sig .tc .vmem S2x512x2048 .f32 := Memref.whole cc0_scratch0
abbrev xrM : Memref sig .tc .vmem S2x512x2048 .f32 := Memref.whole cc0_scratch1
abbrev psM : Memref sig .tc .vmem S2x512x2048 .bf16 := Memref.whole cc0_scratch2
abbrev yrM : Memref sig .tc .vmem S2x512x2048 .bf16 := Memref.whole cc0_scratch3
abbrev voM : Memref sig .tc .vmem S2x512x4096 .f32 := Memref.whole cc0_scratch4

abbrev xRow (j : Fin 8) : Memref sig .tc .hbm S512x2048 .f32 := xM.slice (xrowR j) (fun _ => rfl)
abbrev oRow (j : Fin 8) : Memref sig .tc .hbm S512x4096 .f32 := oM.slice (orowR j) (fun _ => rfl)
abbrev vxS (s : Fin 2) : Memref sig .tc .vmem S512x2048 .f32 := (vxM.slice (slotR s) (fun _ => rfl)).squeeze S512x2048 squeezes_S1x512x2048_S512x2048
abbrev xrS (s : Fin 2) : Memref sig .tc .vmem S512x2048 .f32 := (xrM.slice (slotR s) (fun _ => rfl)).squeeze S512x2048 squeezes_S1x512x2048_S512x2048
abbrev psS (s : Fin 2) : Memref sig .tc .vmem S512x2048 .bf16 := (psM.slice (slotR s) (fun _ => rfl)).squeeze S512x2048 squeezes_S1x512x2048_S512x2048
abbrev yrS (s : Fin 2) : Memref sig .tc .vmem S512x2048 .bf16 := (yrM.slice (slotR s) (fun _ => rfl)).squeeze S512x2048 squeezes_S1x512x2048_S512x2048
abbrev voS (s : Fin 2) : Memref sig .tc .vmem S512x4096 .f32 := (voM.slice (oslotR s) (fun _ => rfl)).squeeze S512x4096 squeezes_S1x512x4096_S512x4096

/-! ## The semaphores -/

/-- One semaphore of a pair. -/
abbrev semOf (a : DmaSems sig S2) (s : Fin 2) : DmaSem sig :=
  ((a.slice (Rect.unit (s := S2) ![s.val] S1.size (inb_sem s))).squeeze S_ squeezes_S1_S_).sem

abbrev ldSem (s : Fin 2) : DmaSem sig := semOf cc0_scratch5 s
abbrev stSem (s : Fin 2) : DmaSem sig := semOf cc0_scratch6 s
abbrev xsSem (s : Fin 2) : DmaSem sig := semOf cc0_scratch7 s
abbrev xrSem (s : Fin 2) : DmaSem sig := semOf cc0_scratch8 s
abbrev ysSem (s : Fin 2) : DmaSem sig := semOf cc0_scratch9 s
abbrev yrSem (s : Fin 2) : DmaSem sig := semOf cc0_scratch10 s
abbrev cxSem : Sem sig := cc0_scratch11.sem
abbrev cySem : Sem sig := cc0_scratch12.sem
abbrev barSem : Sem sig := (SemArray.scalar (sig.barrier 0 rfl) : Sems sig S_).sem

/-! ## Steps -/

theorem wx {sp : Space} {s : Shape} {m : Memref sig .tc sp s .f32} : m.view.WordExact := View.wordExact_bits rfl
theorem wps (s : Fin 2) : (psS s).view.WordExact := ((Memref.isWhole_whole cc0_scratch2).wordExact_slice rfl _ (words_slot s)).reshape _ _
theorem wyr (s : Fin 2) : (yrS s).view.WordExact := ((Memref.isWhole_whole cc0_scratch3).wordExact_slice rfl _ (words_slot s)).reshape _ _

def sendX (c : Dev nD) (k : ℕ) : PP F PUnit :=
  Prog.lift (.enqueueDma (xRow (rw8 k)) (.remote (Dev.tc (xn c)) (xrS (sl k)) (.dma (xsSem (sl k)))) (.dma (xrSem (sl k))) wx wx ⟨⟨rfl, Or.inl rfl⟩, trivial⟩)
def startLd (k : ℕ) : PP F PUnit :=
  Prog.lift (.enqueueDma (xRow (rw8 k)) (.here (vxS (sl k))) (.dma (ldSem (sl k))) wx wx ⟨Or.inl rfl, trivial⟩)
def waitLd (k : ℕ) : PP F PUnit :=
  Prog.lift (.waitDma2 (ldSem (sl k)) (xRow (rw8 k)) (vxS (sl k)) wx wx)
def waitXr (k : ℕ) : PP F PUnit :=
  Prog.lift (.waitDma2 (xrSem (sl k)) (xRow (rw8 k)) (xrS (sl k)) wx wx)
def waitXs (k : ℕ) : PP F PUnit :=
  Prog.lift (.waitDma2 (xsSem (sl k)) (xrS (sl k)) (xRow (rw8 k)) wx wx)
def sendY (c : Dev nD) (k : ℕ) : PP F PUnit :=
  Prog.lift (.enqueueDma (psS (sl k)) (.remote (Dev.tc (yn c)) (yrS (sl k)) (.dma (ysSem (sl k)))) (.dma (yrSem (sl k))) (wps _) (wyr _) ⟨⟨rfl, Or.inl rfl⟩, trivial⟩)
def waitYr (k : ℕ) : PP F PUnit :=
  Prog.lift (.waitDma2 (yrSem (sl k)) (psS (sl k)) (yrS (sl k)) (wps _) (wyr _))
def waitYs (k : ℕ) : PP F PUnit :=
  Prog.lift (.waitDma2 (ysSem (sl k)) (yrS (sl k)) (psS (sl k)) (wyr _) (wps _))
def startSt (k : ℕ) : PP F PUnit :=
  Prog.lift (.enqueueDma (voS (sl k)) (.here (oRow (rw8 k))) (.dma (stSem (sl k))) wx wx ⟨Or.inl rfl, trivial⟩)
def waitSt (k : ℕ) : PP F PUnit :=
  Prog.lift (.waitDma2 (stSem (sl k)) (voS (sl k)) (oRow (rw8 k)) wx wx)

/-- Load a whole slot of a double buffer. -/
def loadSlot {e : EltTy} (M : Memref sig .tc .vmem S2x512x2048 e) (k : ℕ) : PP F (Vec F S1x512x2048 e) :=
  Prog.lift (.load M (slotR (sl k)).toLoadRect (View.loadsAt_vmem h_S1x512x2048))

/-- If the device's column is `w`, store `pay` into half `h` of the staging slot. -/
def storeHalf (y w : BitVec 32) (k : ℕ) (h : Fin 2) (pay : FVec F S1x512x2048 .f32) : PP F PUnit :=
  if _h : Scalar.cmpi .ne (Scalar.extui (Scalar.cmpi .eq y w)) 0#32 = 1#1 then do
    let _v : Vec F S1x512x2048 .f32 ← Prog.lift (.load voM (halfR (sl k) h).toLoadRect (View.loadsAt_vmem h_S1x512x2048))
    Prog.lift (.store voM (halfR (sl k) h) pay Finset.univ (View.stores_vmem_bits_univ h_S1x512x2048 rfl) (.inl rfl))
    pure ⟨⟩
  else do
    pure ⟨⟩

/-- Store into the slot that is sent across the row. -/
def storePs (k : ℕ) (pay : FVec F S1x512x2048 .bf16) : PP F PUnit := do
  let _v : Vec F S1x512x2048 .bf16 ← Prog.lift (.load psM (slotR (sl k)).toLoadRect (View.loadsAt_vmem h_S1x512x2048))
  Prog.lift (.store psM (slotR (sl k)) pay Finset.univ (View.stores_vmem h_S1x512x2048 ((Memref.isWhole_whole cc0_scratch2).storeExact_slice rfl _ (packed_slot _)) (fun _ => rfl)) (.inl rfl))

/-! ## What is computed on a chunk -/

/-- A slot's contents without its leading axis. -/
def flat {α : Type} (v : S1x512x2048.Idx → α) : S512x2048.Idx → α := shapeCast S512x2048 v shapeCasts_S1x512x2048_S512x2048
/-- A chunk with a leading axis. -/
def lead {α : Type} (v : S512x2048.Idx → α) : S1x512x2048.Idx → α := shapeCast S1x512x2048 v shapeCasts_S512x2048_S1x512x2048
/-- The column pair's sum on one chunk. -/
def psum (v w : FVec F S1x512x2048 .f32) : FVec F S512x2048 .f32 := addf (flat v) (flat w)
/-- The narrow copy that is sent. -/
def narrow (v : FVec F S512x2048 .f32) : FVec F S512x2048 .bf16 := truncf .bf16 v bitsLt_bf16_f32
/-- The wide copy of what was received. -/
def widen (v : FVec F S512x2048 .bf16) : FVec F S512x2048 .f32 := extf .f32 v bitsLt_bf16_f32

/-! ## The three blocks of an iteration, the start and the end -/

/-- Do `p` when `b`, else nothing. -/
def doIf (b : Bool) (p : PP F PUnit) : PP F PUnit := if b then p else pure ⟨⟩

/-- The barrier with the two neighbours. -/
def start (c : Dev nD) : PP F PUnit := do
  semSignalWord (xn c) barSem 1#32
  semSignalWord (yn c) barSem 1#32
  semWaitWord barSem 2#32

/-- Chunk `k` sent down the column and loaded. -/
def blockA (c : Dev nD) (k : ℕ) : PP F PUnit := do
  doIf (2 ≤ k) (semWaitWord cxSem 1#32)
  doIf (2 ≤ k) (waitXs (k - 2))
  sendX c k
  startLd k

/-- Chunk `j` received across the row, and its finished rows started on their way out. -/
def blockB (c : Dev nD) (j : ℕ) : PP F PUnit := do
  waitYr j
  doIf (j < 6) (semSignalWord (yn c) cySem 1#32)
  let v ← loadSlot yrM j
  storeHalf (ycol c) 0#32 j 1 (lead (widen (flat v)))
  storeHalf (ycol c) 1#32 j 0 (lead (widen (flat v)))
  startSt j

/-- Chunk `k` received down the column, summed, and sent across the row. -/
def blockC (c : Dev nD) (k : ℕ) : PP F PUnit := do
  doIf (2 ≤ k) (waitSt (k - 2))
  doIf (2 ≤ k) (waitYs (k - 2))
  waitLd k
  waitXr k
  doIf (k < 6) (semSignalWord (xn c) cxSem 1#32)
  let v ← loadSlot vxM k
  let w ← loadSlot xrM k
  storeHalf (ycol c) 0#32 k 0 (lead (psum v w))
  storeHalf (ycol c) 1#32 k 1 (lead (psum v w))
  storePs k (lead (narrow (psum v w)))
  doIf (2 ≤ k) (semWaitWord cySem 1#32)
  sendY c k

/-- The last waits for chunk `k`. -/
def drain (k : ℕ) : PP F PUnit := do
  waitXs k
  waitYs k
  waitSt k

/-- The body after the device has read its own number. -/
def bodyOf (c : Dev nD) : PP F PUnit := do
  start c
  blockA c 0; blockC c 0
  blockA c 1; blockB c 0; blockC c 1
  blockA c 2; blockB c 1; blockC c 2
  blockA c 3; blockB c 2; blockC c 3
  blockA c 4; blockB c 3; blockC c 4
  blockA c 5; blockB c 4; blockC c 5
  blockA c 6; blockB c 5; blockC c 6
  blockA c 7; blockB c 6; blockC c 7
  blockB c 7
  drain 6
  drain 7

/-- What a program does with its device's number, if reading it is the first thing it does. -/
def afterDev : PP F PUnit → Dev nD → PP F PUnit
  | .op (.deviceId) k, c => k c
  | _, _ => pure ⟨⟩

theorem body_dev (t : Fin cfg0.N) : (bodyAt0 (F := F) t) = Prog.op .deviceId (afterDev (bodyAt0 (F := F) t)) := by
  chain_rfl

set_option maxRecDepth 65536 in
theorem after_dev (t : Fin cfg0.N) (c : Dev nD) : afterDev (bodyAt0 (F := F) t) c = bodyOf c := by
  match c with
  | ⟨0, h⟩ => show afterDev (bodyAt0 (F := F) t) ⟨0, h⟩ = bodyOf ⟨0, h⟩; chain_rfl
  | ⟨1, h⟩ => show afterDev (bodyAt0 (F := F) t) ⟨1, h⟩ = bodyOf ⟨1, h⟩; chain_rfl
  | ⟨2, h⟩ => show afterDev (bodyAt0 (F := F) t) ⟨2, h⟩ = bodyOf ⟨2, h⟩; chain_rfl
  | ⟨3, h⟩ => show afterDev (bodyAt0 (F := F) t) ⟨3, h⟩ = bodyOf ⟨3, h⟩; chain_rfl

/-- The printed body: read the device's number, then the chain of the pieces. -/
theorem body_eq (t : Fin cfg0.N) : (bodyAt0 (F := F) t) = Prog.op .deviceId bodyOf :=
  (body_dev t).trans (congrArg _ (funext (after_dev t)))

end Cert.TwoRound

end
-- ==== Proof.Sched.lean ====
/-
  The protocol: which cell is paid when, by whom, with what, and in which order.

  Every DMA semaphore is used for rounds 0 to 3, one transfer a round: slot `s` in round `r` carries chunk `2 * r + s`.
  The two credit semaphores carry six units, which hand over nothing: the right to send into a neighbour's slot travels
  with the neighbour's own later chunk (`carry`), whose sender has read the slot by then. The barrier hands each device
  the neighbours' slots for the first two chunks.
-/
module

public import proofs.«01_k».proof.Proof.Prog

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## Neighbours -/

theorem xn_xn (c : Dev nD) : xn (xn c) = c := by
  revert c; decide
theorem yn_yn (c : Dev nD) : yn (yn c) = c := by
  revert c; decide
theorem yn_ne_xn (c : Dev nD) : yn c ≠ xn c := by
  revert c; decide

/-! ## Cells -/

/-- The six uses of the DMA semaphores: load, store, and the two ends of each direction's transfers. -/
inductive Kd | ld | st | xs | xr | ys | yr
  deriving DecidableEq

instance : Fintype Kd := ⟨{.ld, .st, .xs, .xr, .ys, .yr}, fun x => by cases x <;> decide⟩

def sem : Kd → Fin 2 → DmaSem sig
  | .ld => ldSem | .st => stSem | .xs => xsSem | .xr => xrSem | .ys => ysSem | .yr => yrSem

/-- Which use a DMA semaphore has, -/
def kd (q : DmaSem sig) : Kd :=
  match q.val / 2 with
  | 0 => .ld | 1 => .st | 2 => .xs | 3 => .xr | 4 => .ys | _ => .yr
/-- and which slot it belongs to. -/
def sd (q : DmaSem sig) : ℕ := q.val % 2

theorem kd_sem (κ : Kd) (s : Fin 2) : kd (sem κ s) = κ := by
  cases κ <;> revert s <;> decide
theorem sd_sem (κ : Kd) (s : Fin 2) : sd (sem κ s) = s.val := by
  cases κ <;> revert s <;> decide

/-- The cell that chunk `k` uses on device `c`. -/
abbrev dc (κ : Kd) (c : Dev nD) (k : ℕ) : GSem nD τ sig := ((c : Thread nD τ), .dma (sem κ (sl k)))
abbrev cxc (c : Dev nD) : GSem nD τ sig := ((c : Thread nD τ), .reg cxSem)
abbrev cyc (c : Dev nD) : GSem nD τ sig := ((c : Thread nD τ), .reg cySem)
abbrev bar (c : Dev nD) : GSem nD τ sig := ((c : Thread nD τ), .reg barSem)

theorem cx_ne_bar : (cxSem : Sem sig) ≠ barSem := by decide
theorem cy_ne_bar : (cySem : Sem sig) ≠ barSem := by decide
theorem cy_ne_cx : (cySem : Sem sig) ≠ cxSem := by decide

theorem sl_add_two (k : ℕ) : sl (k + 2) = sl k := Fin.ext (Nat.add_mod_right k 2)

/-! ## Amounts -/

/-- What one transfer credits. -/
def amt : Kd → ℕ
  | .ld => (vxS 0).view.dmaCredit
  | .st => (oRow 0).view.dmaCredit
  | .xs => (xrS 0).view.dmaCredit
  | .xr => (xrS 0).view.dmaCredit
  | .ys => (yrS 0).view.dmaCredit
  | .yr => (yrS 0).view.dmaCredit

theorem amt_pos (κ : Kd) : 0 < amt κ := by
  cases κ <;> exact View.dmaCredit_pos _ (by decide)

/-! ## Contents -/

section Contents
variable (m : (ℓ : Loc nD τ sig) → Buf (Elt F) ℓ)

/-- The device's block of the operand. -/
def X (c : Dev nD) : Buf (Elt F) ((c : Thread nD τ).loc main_arg0) := m ((c : Thread nD τ).loc main_arg0)

/-- Chunk `k` of it. -/
def chunk (c : Dev nD) (k : ℕ) : FVec F S512x2048 .f32 := (xRow (rw8 k)).view.read (Elt F) (X m c)

/-- The column pair's sum on chunk `k`, as device `c` forms it. -/
def psumAt (c : Dev nD) (k : ℕ) : FVec F S512x2048 .f32 := addf (chunk m c k) (chunk m (xn c) k)

/-- What device `c` receives across the row on chunk `k`. -/
def recvAt (c : Dev nD) (k : ℕ) : FVec F S512x2048 .bf16 := narrow (psumAt m (yn c) k)

/-- The position of a column within its half. -/
def inHalf (i : S512x4096.Idx) : S512x2048.Idx := fun a => match a with
  | ⟨0, _⟩ => ⟨(i 0).val, (i 0).isLt⟩
  | ⟨1, _⟩ => ⟨(i 1).val % 2048, Nat.mod_lt _ (by decide)⟩

/-- The half a column lies in. -/
def halfOf (i : S512x4096.Idx) : ℕ := (i 1).val / 2048

/-- Chunk `k` of the result on device `c`: its own half, and the half it received. -/
def outChunk (c : Dev nD) (k : ℕ) : FVec F S512x4096 .f32 := fun i =>
  if halfOf i = c.val % 2 then psumAt m c k (inHalf i) else widen (recvAt m c k) (inHalf i)

/-- A row's position within its chunk. -/
def inChunk (i : S4096x4096.Idx) : S512x4096.Idx := fun a => match a with
  | ⟨0, _⟩ => ⟨(i 0).val % 512, Nat.mod_lt _ (by decide)⟩
  | ⟨1, _⟩ => ⟨(i 1).val, (i 1).isLt⟩

/-- The whole result on device `c`. -/
def outV (c : Dev nD) : Buf (Elt F) ((c : Thread nD τ).loc main_v1) :=
  fun i : S4096x4096.Idx => outChunk m c ((i 0).val / 512) (inChunk i)

end Contents

/-! ## Pieces of buffers -/

/-- A slot of some buffer at any contents. -/
def anyAt (c : Dev nD) {sp : Space} {s : Shape} {e : EltTy} (M : Memref sig .tc sp s e) : sProp 𝕄 :=
  iprop(∃ f, M.view.loc (c : Thread nD τ) ↦[M.view.set]{fullShare} f)

/-- A slot of some buffer reading as `v`. -/
def valAt (c : Dev nD) {sp : Space} {s : Shape} {e : EltTy} (M : Memref sig .tc sp s e) (v : s.Idx → Elt F e) : sProp 𝕄 :=
  iprop(∃ f, ⌜M.view.read (Elt F) f = v⌝ ∗ (M.view.loc (c : Thread nD τ) ↦[M.view.set]{fullShare} f))

instance anyAt_storable (c : Dev nD) {sp : Space} {s : Shape} {e : EltTy} (M : Memref sig .tc sp s e) :
    BI.Storable (upEmb : UEmb _ 𝕄) (anyAt (F := F) c M) := by unfold anyAt; infer_instance
instance valAt_storable (c : Dev nD) {sp : Space} {s : Shape} {e : EltTy} (M : Memref sig .tc sp s e) (v : s.Idx → Elt F e) :
    BI.Storable (upEmb : UEmb _ 𝕄) (valAt (F := F) c M v) := by unfold valAt; infer_instance

/-- `R` when `b`, else nothing. -/
def giveIf (b : Prop) [Decidable b] (R : sProp 𝕄) : sProp 𝕄 := if b then R else iprop(emp)
instance giveIf_storable (b : Prop) [Decidable b] (R : sProp 𝕄) [BI.Storable (upEmb : UEmb _ 𝕄) R] :
    BI.Storable (upEmb : UEmb _ 𝕄) (giveIf (F := F) b R) := by unfold giveIf; split <;> infer_instance

section Pay
variable (m : (ℓ : Loc nD τ sig) → Buf (Elt F) ℓ)

/-- The rows of chunk `k` of the operand, at share `q`. -/
def xPts (q : PosShare TreeShare) (c : Dev nD) (k : ℕ) : sProp 𝕄 :=
  (xRow (rw8 k)).view.loc (c : Thread nD τ) ↦[(xRow (rw8 k)).view.set]{q} X m c

/-- The rows of chunk `k` of the result, finished. -/
def oPts (c : Dev nD) (k : ℕ) : sProp 𝕄 :=
  (oRow (rw8 k)).view.loc (c : Thread nD τ) ↦[(oRow (rw8 k)).view.set]{fullShare} outV m c

instance xPts_storable (q : PosShare TreeShare) (c : Dev nD) (k : ℕ) : BI.Storable (upEmb : UEmb _ 𝕄) (xPts m q c k) := by unfold xPts; infer_instance
instance oPts_storable (c : Dev nD) (k : ℕ) : BI.Storable (upEmb : UEmb _ 𝕄) (oPts m c k) := by unfold oPts; infer_instance

/-- What sending chunk `k` to device `n` down a column needs of `n`: its slot, and that its cell has come to that round. -/
def rightX (n : Dev nD) (k : ℕ) : sProp 𝕄 := iprop(anyAt n (xrS (sl k)) ∗ reached ER (dc .xr n k) (k / 2))
/-- The same across a row. -/
def rightY (n : Dev nD) (k : ℕ) : sProp 𝕄 := iprop(anyAt n (yrS (sl k)) ∗ reached ER (dc .yr n k) (k / 2))

instance rightX_storable (n : Dev nD) (k : ℕ) : BI.Storable (upEmb : UEmb _ 𝕄) (rightX (F := F) n k) := by unfold rightX; infer_instance
instance rightY_storable (n : Dev nD) (k : ℕ) : BI.Storable (upEmb : UEmb _ 𝕄) (rightY (F := F) n k) := by unfold rightY; infer_instance

/-- What completing chunk `k`'s transfer hands device `c`. -/
def pay (κ : Kd) (c : Dev nD) (k : ℕ) : sProp 𝕄 :=
  match κ with
  | .ld => iprop(valAt c (vxS (sl k)) (chunk m c k) ∗ xPts m fullShare.right c k)
  | .st => iprop(oPts m c k ∗ anyAt c (voS (sl k)))
  | .xs => xPts m fullShare.left c k
  | .xr => iprop(valAt c (xrS (sl k)) (chunk m (xn c) k) ∗ giveIf (1 ≤ k ∧ k < 7) (rightX (xn c) (k + 1)))
  | .ys => anyAt c (psS (sl k))
  | .yr => iprop(valAt c (yrS (sl k)) (recvAt m c k) ∗ giveIf (1 ≤ k ∧ k < 7) (rightY (yn c) (k + 1)))

instance pay_storable (κ : Kd) (c : Dev nD) (k : ℕ) : BI.Storable (upEmb : UEmb _ 𝕄) (pay m κ c k) := by
  cases κ <;> unfold pay <;> dsimp only <;> infer_instance

/-- What a neighbour's barrier signal hands device `c`: its two slots. -/
def barPay (c : Dev nD) (d : ℕ) : sProp 𝕄 :=
  if d = 0 then iprop(rightX (xn c) 0 ∗ rightX (xn c) 1) else iprop(rightY (yn c) 0 ∗ rightY (yn c) 1)

instance barPay_storable (c : Dev nD) (d : ℕ) : BI.Storable (upEmb : UEmb _ 𝕄) (barPay (F := F) c d) := by
  unfold barPay; split <;> infer_instance

/-! ## The schedule -/

def dutiesOf (sm : SemLoc sig) (r : ℕ) : Finset ℕ :=
  match sm with
  | .dma _ => if r < 4 then {0} else ∅
  | .reg s => if r = 0 then (if s = barSem then Finset.range 2 else Finset.range 6) else ∅

def amountOf (sm : SemLoc sig) : ℕ :=
  match sm with
  | .dma q => amt (kd q)
  | .reg _ => 1

def payOf (c : Dev nD) (sm : SemLoc sig) (r d : ℕ) : sProp 𝕄 :=
  match sm with
  | .dma q => pay m (kd q) c (2 * r + sd q)
  | .reg s => if s = barSem then barPay c d else iprop(emp)

instance payOf_storable (c : Dev nD) (sm : SemLoc sig) (r d : ℕ) : BI.Storable (upEmb : UEmb _ 𝕄) (payOf m c sm r d) := by
  unfold payOf; split
  · infer_instance
  · split <;> infer_instance

def Rd : Rounds.Schedule (GSem nD τ sig) ℕ 𝕄 where
  duties g r := if g.1.2 = .tc then dutiesOf g.2 r else ∅
  unitless _ := False
  amount g _ _ := amountOf g.2
  payload g r d := payOf m g.1.1 g.2 r d
  amount_pos g _ _ _ := by
    unfold amountOf; split
    · exact amt_pos _
    · exact Nat.one_pos

instance Rd_payload_storable (g : GSem nD τ sig) (r d : ℕ) : BI.Storable (upEmb : UEmb _ 𝕄) ((Rd m).payload g r d) := by
  show BI.Storable upEmb (payOf m g.1.1 g.2 r d); infer_instance

theorem duties_tc (c : Dev nD) (sm : SemLoc sig) (r : ℕ) : (Rd m).duties ((c : Thread nD τ), sm) r = dutiesOf sm r := by
  show (if (c : Thread nD τ).2 = .tc then dutiesOf sm r else ∅) = _; exact if_pos rfl

theorem duties_dc (κ : Kd) (c : Dev nD) (k : ℕ) (hk : k < 8) : (Rd m).duties (dc κ c k) (k / 2) = {0} := by
  rw [duties_tc]; exact if_pos (by omega)
theorem duties_bar (c : Dev nD) : (Rd m).duties (bar c) 0 = Finset.range 2 := by
  rw [duties_tc]; rfl
theorem duties_cx (c : Dev nD) : (Rd m).duties (cxc c) 0 = Finset.range 6 := by
  rw [duties_tc]; rfl
theorem duties_cy (c : Dev nD) : (Rd m).duties (cyc c) 0 = Finset.range 6 := by
  rw [duties_tc]; rfl

theorem duties_dma_later (c : Dev nD) (q : DmaSem sig) (r : ℕ) (hr : 4 ≤ r) : (Rd m).duties ((c : Thread nD τ), .dma q) r = ∅ := by
  rw [duties_tc]; exact if_neg (by omega)
theorem duties_reg_later (c : Dev nD) (s : Sem sig) (r : ℕ) (hr : 1 ≤ r) : (Rd m).duties ((c : Thread nD τ), .reg s) r = ∅ := by
  rw [duties_tc]; exact if_neg (by omega)

theorem amount_dc (κ : Kd) (c : Dev nD) (k r d : ℕ) : (Rd m).amount (dc κ c k) r d = amt κ := by
  show amt (kd (sem κ (sl k))) = _; rw [kd_sem]
theorem amount_reg (c : Dev nD) (s : Sem sig) (r d : ℕ) : (Rd m).amount ((c : Thread nD τ), .reg s) r d = 1 := rfl

theorem expect_dc (κ : Kd) (c : Dev nD) (k : ℕ) (hk : k < 8) : (Rd m).expect (dc κ c k) (k / 2) = amt κ := by
  unfold Schedule.expect Schedule.amountOf; rw [duties_dc m κ c k hk, Finset.sum_singleton, amount_dc]
theorem expect_bar (c : Dev nD) : (Rd m).expect (bar c) 0 = 2 := by
  unfold Schedule.expect Schedule.amountOf; rw [duties_bar]; rfl
theorem expect_cx (c : Dev nD) : (Rd m).expect (cxc c) 0 = 6 := by
  unfold Schedule.expect Schedule.amountOf; rw [duties_cx]; rfl
theorem expect_cy (c : Dev nD) : (Rd m).expect (cyc c) 0 = 6 := by
  unfold Schedule.expect Schedule.amountOf; rw [duties_cy]; rfl

theorem payload_dc (κ : Kd) (c : Dev nD) (k d : ℕ) : (Rd m).payload (dc κ c k) (k / 2) d = pay m κ c k := by
  show pay m (kd (sem κ (sl k))) c (2 * (k / 2) + sd (sem κ (sl k))) = _
  rw [kd_sem, sd_sem]; show pay m κ c (2 * (k / 2) + k % 2) = _; rw [Nat.div_add_mod]
theorem payload_bar (c : Dev nD) (d : ℕ) : (Rd m).payload (bar c) 0 d = barPay c d := by
  show (if barSem = barSem then barPay c d else iprop(emp)) = _; exact if_pos rfl
theorem payload_cx (c : Dev nD) (r d : ℕ) : (Rd m).payload (cxc c) r d = iprop(emp) := by
  show (if cxSem = barSem then barPay c d else iprop(emp)) = _; exact if_neg cx_ne_bar
theorem payload_cy (c : Dev nD) (r d : ℕ) : (Rd m).payload (cyc c) r d = iprop(emp) := by
  show (if cySem = barSem then barPay c d else iprop(emp)) = _; exact if_neg cy_ne_bar

end Pay

/-! ## What is owed, and in which order it is paid -/

/-- Payments still to be made: chunks from `a` down the column, from `d` across the row, credits from `d` for the
    column, from `b` for the row. -/
def Owed (c : Dev nD) (a b d e : ℕ) : CellTallies nD τ sig ℕ :=
  (∑ k ∈ Finset.Ico a 8, tallyAt (dc .xr (xn c) k) k (amt .xr)) + (∑ k ∈ Finset.Ico d 8, tallyAt (dc .yr (yn c) k) k (amt .yr))
    + (∑ k ∈ Finset.Ico e 6, tallyAt (cxc (xn c)) k 1) + (∑ k ∈ Finset.Ico b 6, tallyAt (cyc (yn c)) k 1)

theorem sum_step {M : Type} [AddCommMonoid M] (f : ℕ → M) {a n : ℕ} (h : a < n) :
    ∑ k ∈ Finset.Ico a n, f k = (∑ k ∈ Finset.Ico (a + 1) n, f k) + f a := by
  have e : Finset.Ico a n = insert a (Finset.Ico (a + 1) n) := by
    ext k; simp only [Finset.mem_insert, Finset.mem_Ico]; omega
  rw [e, Finset.sum_insert (by simp), add_comm]

section Four
variable {M : Type} [AddCommMonoid M] (p q r s t : M)
theorem four_1 : p + t + q + r + s = p + q + r + s + t := by simp only [add_assoc, add_comm, add_left_comm]
theorem four_2 : p + (q + t) + r + s = p + q + r + s + t := by simp only [add_assoc, add_comm, add_left_comm]
theorem four_3 : p + q + (r + t) + s = p + q + r + s + t := by simp only [add_assoc, add_comm, add_left_comm]
theorem four_4 : p + q + r + (s + t) = p + q + r + s + t := (add_assoc _ _ _).symm
end Four

theorem owed_xr (c : Dev nD) {a b d e : ℕ} (h : a < 8) :
    Owed c a b d e = Owed c (a + 1) b d e + tallyAt (dc .xr (xn c) a) a (amt .xr) := by
  unfold Owed; rw [sum_step _ h]; exact four_1 _ _ _ _ _
theorem owed_yr (c : Dev nD) {a b d e : ℕ} (h : d < 8) :
    Owed c a b d e = Owed c a b (d + 1) e + tallyAt (dc .yr (yn c) d) d (amt .yr) := by
  unfold Owed; rw [sum_step _ h]; exact four_2 _ _ _ _ _
theorem owed_cx (c : Dev nD) {a b d e : ℕ} (h : e < 6) :
    Owed c a b d e = Owed c a b d (e + 1) + tallyAt (cxc (xn c)) e 1 := by
  unfold Owed; rw [sum_step _ h]; exact four_3 _ _ _ _ _
theorem owed_cy (c : Dev nD) {a b d e : ℕ} (h : b < 6) :
    Owed c a b d e = Owed c a (b + 1) d e + tallyAt (cyc (yn c)) b 1 := by
  unfold Owed; rw [sum_step _ h]; exact four_4 _ _ _ _ _

def L (g : GSem nD τ sig) : Finset ℕ := if g.1.2 = .tc then Finset.range 8 else ∅

/-- A payment's level is its place in the payer's program. -/
def lv (g : GSem nD τ sig) (k : ℕ) : ℕ :=
  match g.2 with
  | .reg s => if s = barSem then 1 else if s = cxSem then 10 * k + 13 else 10 * k + 22
  | .dma q => match kd q with
    | .xr => 10 * k + 11
    | .yr => 10 * k + 14
    | _ => 0

theorem L_of_ne (g : GSem nD τ sig) (h : g.1.2 ≠ .tc) : L g = ∅ := if_neg h
theorem L_tc (c : Dev nD) (sm : SemLoc sig) : L ((c : Thread nD τ), sm) = Finset.range 8 := if_pos rfl

theorem lv_bar (c : Dev nD) (k : ℕ) : lv (bar c) k = 1 := by
  show (if barSem = barSem then 1 else if barSem = cxSem then 10 * k + 13 else 10 * k + 22) = _; exact if_pos rfl
theorem lv_cx (c : Dev nD) (k : ℕ) : lv (cxc c) k = 10 * k + 13 := by
  show (if cxSem = barSem then 1 else if cxSem = cxSem then 10 * k + 13 else 10 * k + 22) = _
  rw [if_neg cx_ne_bar, if_pos rfl]
theorem lv_cy (c : Dev nD) (k : ℕ) : lv (cyc c) k = 10 * k + 22 := by
  show (if cySem = barSem then 1 else if cySem = cxSem then 10 * k + 13 else 10 * k + 22) = _
  rw [if_neg cy_ne_bar, if_neg cy_ne_cx]
/-- The level of a payment on a DMA cell. -/
def lvd (κ : Kd) (k : ℕ) : ℕ := match κ with | .xr => 10 * k + 11 | .yr => 10 * k + 14 | _ => 0
theorem lv_dc (κ : Kd) (c : Dev nD) (j k : ℕ) : lv (dc κ c j) k = lvd κ k := by
  show (match kd (sem κ (sl j)) with | .xr => 10 * k + 11 | .yr => 10 * k + 14 | _ => 0) = _
  rw [kd_sem]; rfl

theorem sum_pos {a n : ℕ} {f : ℕ → CellTallies nD τ sig ℕ} {g : GSem nD τ sig} {i : ℕ}
    (h : 0 < (∑ k ∈ Finset.Ico a n, f k) g i) : ∃ k, a ≤ k ∧ k < n ∧ 0 < f k g i := by
  rw [Finset.sum_apply, Finsupp.finset_sum_apply] at h
  obtain ⟨k, hk, hp⟩ := Finset.exists_ne_zero_of_sum_ne_zero (Nat.pos_iff_ne_zero.mp h)
  rw [Finset.mem_Ico] at hk
  exact ⟨k, hk.1, hk.2, Nat.pos_of_ne_zero hp⟩

theorem tally_pos {g g' : GSem nD τ sig} {i j n : ℕ} (h : 0 < tallyAt g i n g' j) : g' = g ∧ j = i := by
  rw [tallyAt_apply] at h
  by_contra hn
  rw [if_neg hn] at h; exact Nat.lt_irrefl 0 h

theorem owed_pos {c : Dev nD} {a b d e : ℕ} {g : GSem nD τ sig} {i : ℕ} (h : 0 < Owed c a b d e g i) :
    i ∈ L g ∧ (10 * a + 11 ≤ lv g i ∨ 10 * d + 14 ≤ lv g i ∨ 10 * e + 13 ≤ lv g i ∨ 10 * b + 22 ≤ lv g i) := by
  unfold Owed at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, h1, h2, h3⟩ := sum_pos h
        obtain ⟨rfl, rfl⟩ := tally_pos h3
        rw [L_tc, lv_dc]; exact ⟨Finset.mem_range.mpr h2, .inl (by show _ ≤ 10 * i + 11; omega)⟩
      · obtain ⟨k, h1, h2, h3⟩ := sum_pos h
        obtain ⟨rfl, rfl⟩ := tally_pos h3
        rw [L_tc, lv_dc]; exact ⟨Finset.mem_range.mpr h2, .inr (.inl (by show _ ≤ 10 * i + 14; omega))⟩
    · obtain ⟨k, h1, h2, h3⟩ := sum_pos h
      obtain ⟨rfl, rfl⟩ := tally_pos h3
      rw [L_tc, lv_cx]; exact ⟨Finset.mem_range.mpr (by omega), .inr (.inr (.inl (by omega)))⟩
  · obtain ⟨k, h1, h2, h3⟩ := sum_pos h
    obtain ⟨rfl, rfl⟩ := tally_pos h3
    rw [L_tc, lv_cy]; exact ⟨Finset.mem_range.mpr (by omega), .inr (.inr (.inr (by omega)))⟩

/-- A wait is allowed when all that is still owed comes later. -/
theorem mayWait (c : Dev nD) (sm : SemLoc sig) (i : ℕ) {a b d e : ℕ} (hi : i < 8)
    (h : lv ((c : Thread nD τ), sm) i < 10 * a + 11 ∧ lv ((c : Thread nD τ), sm) i < 10 * d + 14
      ∧ lv ((c : Thread nD τ), sm) i < 10 * e + 13 ∧ lv ((c : Thread nD τ), sm) i < 10 * b + 22) :
    (levAts L lv : sProp 𝕄) ⊢ MayWait (c : Thread nD τ) sm i (Owed c a b d e) :=
  MayOwe.of_cut (L := L) (lev := lv) (lv ((c : Thread nD τ), sm) i)
    (fun p hp => by rw [Finset.mem_singleton.mp hp, L_tc]; exact Finset.mem_range.mpr hi)
    (fun g u hg => (owed_pos hg).1)
    (fun p hp => by rw [Finset.mem_singleton.mp hp])
    (fun g u hg => by rcases (owed_pos hg).2 with h' | h' | h' | h' <;> omega)

end Cert.TwoRound

end
-- ==== Proof.Geo.lean ====
/-
  Where the slots, halves and rows lie in their buffers, and what they hold after a store or a transfer.
-/
module

public import proofs.«01_k».proof.Proof.Sched
public import Idealize.ShloMosaic.Lib.ViewIndex

@[expose] public section

set_option maxRecDepth 16384

noncomputable section

namespace Cert.TwoRound

open Idealize.ShloMosaic Idealize.ShloMosaic.TcCoe
open Cert.KernelIdeal Cert.KernelIdeal.Gen

variable {F : FTy → Type} [FloatOps F]

/-! ## The leading axis -/

theorem flat_lead {α : Type} (w : S512x2048.Idx → α) : flat (lead w) = w := by
  funext j; unfold flat lead shapeCast
  rw [show Shape.reshapeEquiv _ (Shape.reshapeEquiv _ j) = j from by simp [Shape.reshapeEquiv]]

/-- A chunk's index with the leading axis. -/
def up (j : S512x2048.Idx) : S1x512x2048.Idx := fun a => match a with
  | ⟨0, _⟩ => ⟨0, Nat.one_pos⟩
  | ⟨1, _⟩ => ⟨(j 0).val, (j 0).isLt⟩
  | ⟨2, _⟩ => ⟨(j 1).val, (j 1).isLt⟩

theorem up_eq (h : S512x2048.numel = S1x512x2048.numel) (j : S512x2048.Idx) : Shape.reshapeEquiv h j = up j :=
  Shape.reshapeEquiv_eq_of_rowMajor h (by
    rw [Shape.rowMajor_val_three, Shape.rowMajor_val_two]
    show (0 * 512 + (j 0).val) * 2048 + (j 1).val = (j 0).val * 2048 + (j 1).val
    rw [Nat.zero_mul, Nat.zero_add])

/-- A whole-width chunk's index with the leading axis. -/
def upW (j : S512x4096.Idx) : S1x512x4096.Idx := fun a => match a with
  | ⟨0, _⟩ => ⟨0, Nat.one_pos⟩
  | ⟨1, _⟩ => ⟨(j 0).val, (j 0).isLt⟩
  | ⟨2, _⟩ => ⟨(j 1).val, (j 1).isLt⟩

theorem upW_eq (h : S512x4096.numel = S1x512x4096.numel) (j : S512x4096.Idx) : Shape.reshapeEquiv h j = upW j :=
  Shape.reshapeEquiv_eq_of_rowMajor h (by
    rw [Shape.rowMajor_val_three, Shape.rowMajor_val_two]
    show (0 * 512 + (j 0).val) * 4096 + (j 1).val = (j 0).val * 4096 + (j 1).val
    rw [Nat.zero_mul, Nat.zero_add])

theorem flat_apply {α : Type} (w : S1x512x2048.Idx → α) (j : S512x2048.Idx) : flat w j = w (up j) := by
  unfold flat shapeCast; rw [up_eq]

/-! ## A slot's loads -/

theorem flat_read_vx (s : Fin 2) (f : (cc0_scratch0 : Ref sig .tc).ty.Contents (Elt F)) :
    flat ((vxM.access (slotR s)).read (Elt F) f) = (vxS s).view.read (Elt F) f := rfl
theorem flat_read_xr (s : Fin 2) (f : (cc0_scratch1 : Ref sig .tc).ty.Contents (Elt F)) :
    flat ((xrM.access (slotR s)).read (Elt F) f) = (xrS s).view.read (Elt F) f := rfl
theorem flat_read_yr (s : Fin 2) (f : (cc0_scratch3 : Ref sig .tc).ty.Contents (Elt F)) :
    flat ((yrM.access (slotR s)).read (Elt F) f) = (yrS s).view.read (Elt F) f := rfl

theorem flat_read_ps (s : Fin 2) (f : (cc0_scratch2 : Ref sig .tc).ty.Contents (Elt F)) :
    flat ((psM.access (slotR s)).read (Elt F) f) = (psS s).view.read (Elt F) f := rfl

theorem set_vx (s : Fin 2) : (vxM.access (slotR s)).set = (vxS s).view.set := (View.set_reshape _ _).symm
theorem set_xr (s : Fin 2) : (xrM.access (slotR s)).set = (xrS s).view.set := (View.set_reshape _ _).symm
theorem set_ps (s : Fin 2) : (psM.access (slotR s)).set = (psS s).view.set := (View.set_reshape _ _).symm
theorem set_yr (s : Fin 2) : (yrM.access (slotR s)).set = (yrS s).view.set := (View.set_reshape _ _).symm

/-! ## The slot that is sent across the row -/

theorem read_ps (s : Fin 2) (f : (cc0_scratch2 : Ref sig .tc).ty.Contents (Elt F)) (w : FVec F S512x2048 .bf16) :
    (psS s).view.read (Elt F) ((psM.access (slotR s)).write (Elt F) f (lead w) Finset.univ) = w := by
  rw [← flat_read_ps, View.read_write_univ, flat_lead]

/-! ## The staging slot and its halves -/

theorem emb_vo (s : Fin 2) (i : S512x4096.Idx) : (voS s).view.emb i = (oslotR s).emb (upW i) := by
  show (oslotR s).emb (Shape.reshapeEquiv _ i) = _; rw [upW_eq]

theorem vo_coord (s : Fin 2) (i : S512x4096.Idx) :
    (((oslotR s).emb (upW i)) 0).val = s.val ∧ (((oslotR s).emb (upW i)) 1).val = (i 0).val ∧ (((oslotR s).emb (upW i)) 2).val = (i 1).val := by
  refine ⟨?_, ?_, ?_⟩
  · show s.val + 1 * 0 = _; omega
  · show 0 + 1 * (i 0).val = _; omega
  · show 0 + 1 * (i 1).val = _; omega

theorem half_coord (s h : Fin 2) (x : S1x512x2048.Idx) :
    (((halfR s h).emb x) 0).val = s.val + (x 0).val ∧ (((halfR s h).emb x) 1).val = (x 1).val ∧ (((halfR s h).emb x) 2).val = 2048 * h.val + (x 2).val := by
  refine ⟨?_, ?_, ?_⟩
  · show s.val + 1 * (x 0).val = _; omega
  · show 0 + 1 * (x 1).val = _; omega
  · show 2048 * h.val + 1 * (x 2).val = _; omega

theorem half_hit (s h : Fin 2) (i : S512x4096.Idx) (hi : halfOf i = h.val) : (oslotR s).emb (upW i) = (halfR s h).emb (up (inHalf i)) := by
  obtain ⟨a0, a1, a2⟩ := vo_coord s i
  obtain ⟨b0, b1, b2⟩ := half_coord s h (up (inHalf i))
  refine Shape.idx3_ext ?_ ?_ ?_
  · rw [a0, b0]; rfl
  · rw [a1, b1]; rfl
  · rw [a2, b2]; show (i 1).val = 2048 * h.val + (i 1).val % 2048; unfold halfOf at hi; omega

theorem half_miss (s h : Fin 2) (i : S512x4096.Idx) (hi : halfOf i ≠ h.val) (x : S1x512x2048.Idx) : (oslotR s).emb (upW i) ≠ (halfR s h).emb x := by
  intro e
  obtain ⟨a0, a1, a2⟩ := vo_coord s i
  obtain ⟨b0, b1, b2⟩ := half_coord s h x
  rw [e, b2] at a2
  have hx : (x 2).val < 2048 := (x 2).isLt
  unfold halfOf at hi; omega

/-- A slot read after a store into one of its halves. -/
theorem read_half (s h : Fin 2) (f : (cc0_scratch4 : Ref sig .tc).ty.Contents (Elt F)) (w : FVec F S512x2048 .f32) (i : S512x4096.Idx) :
    (voS s).view.read (Elt F) ((voM.access (halfR s h)).write (Elt F) f (lead w) Finset.univ) i
      = if halfOf i = h.val then w (inHalf i) else (voS s).view.read (Elt F) f i := by
  by_cases hi : halfOf i = h.val
  · rw [if_pos hi, View.read_apply, emb_vo, half_hit s h i hi]
    have e := congrFun (View.read_write_univ (v := voM.access (halfR s h)) f (lead w)) (up (inHalf i))
    rw [View.read_apply] at e
    have e' : w (inHalf i) = lead w (up (inHalf i)) :=
      (congrFun (flat_lead w) _).symm.trans (flat_apply (lead w) _)
    rw [e']; exact e
  · rw [if_neg hi]
    refine View.read_congr_at i ?_
    rw [emb_vo]
    refine View.write_of_not_mem _ _ _ fun hm => ?_
    obtain ⟨x, -, e⟩ := Finset.mem_map.mp hm
    exact half_miss s h i hi x e.symm

theorem set_half (s h : Fin 2) : (voM.access (halfR s h)).set ⊆ (voS s).view.set := by
  intro y hy
  obtain ⟨x, -, rfl⟩ := Finset.mem_map.mp hy
  let i : S512x4096.Idx := fun a => match a with
    | ⟨0, _⟩ => ⟨(x 1).val, (x 1).isLt⟩
    | ⟨1, _⟩ => ⟨2048 * h.val + (x 2).val, by have := (x 2).isLt; have := h.isLt; show _ < 4096; show 2048 * h.val + (x 2).val < 4096; have h2 : (x 2).val < 2048 := (x 2).isLt; omega⟩
  have e : (voM.access (halfR s h)).emb x = (voS s).view.emb i := by
    rw [emb_vo]
    obtain ⟨a0, a1, a2⟩ := vo_coord s i
    obtain ⟨b0, b1, b2⟩ := half_coord s h x
    have h0 : (x 0).val = 0 := Nat.lt_one_iff.mp (x 0).isLt
    refine Shape.idx3_ext ?_ ?_ ?_
    · exact (b0.trans (by rw [h0]; rfl)).trans a0.symm
    · exact b1.trans a1.symm
    · exact b2.trans a2.symm
  rw [e]; exact View.emb_mem_set _ i

/-! ## The result's rows -/

section Rows
variable (m : (ℓ : Loc nD τ sig) → Buf (Elt F) ℓ)

/-- Rows written with chunk `k` of the result are the result there. -/
theorem write_rows (c : Dev nD) (k : ℕ) (hk : k < 8) (f : Buf (Elt F) ((c : Thread nD τ).loc main_v1)) :
    ∀ i ∈ (oRow (rw8 k)).view.set, (oRow (rw8 k)).view.write (Elt F) f (outChunk m c k) Finset.univ i = outV m c i := by
  intro y hy
  obtain ⟨x, -, rfl⟩ := Finset.mem_map.mp hy
  have h1 : (oRow (rw8 k)).view.write (Elt F) f (outChunk m c k) Finset.univ ((oRow (rw8 k)).view.emb x) = outChunk m c k x := by
    have e := congrFun (View.read_write_univ (v := (oRow (rw8 k)).view) f (outChunk m c k)) x
    rw [View.read_apply] at e; exact e
  rw [h1]
  have hx : (x 0).val < 512 := (x 0).isLt
  have e0 : (((oRow (rw8 k)).view.emb x : S4096x4096.Idx) 0).val = 512 * k + (x 0).val := by
    show 512 * (k % 8) + 1 * (x 0).val = _; omega
  have e1 : (((oRow (rw8 k)).view.emb x : S4096x4096.Idx) 1).val = (x 1).val := by
    show 0 + 1 * (x 1).val = _; omega
  show _ = outChunk m c ((((oRow (rw8 k)).view.emb x : S4096x4096.Idx) 0).val / 512) (inChunk ((oRow (rw8 k)).view.emb x))
  have e2 : (((oRow (rw8 k)).view.emb x : S4096x4096.Idx) 0).val / 512 = k := by rw [e0]; omega
  have e3 : inChunk ((oRow (rw8 k)).view.emb x) = x := by
    funext a; apply Fin.ext
    match a with
    | ⟨0, _⟩ => show (((oRow (rw8 k)).view.emb x : S4096x4096.Idx) 0).val % 512 = (x 0).val; rw [e0]; omega
    | ⟨1, _⟩ => exact e1
  rw [e2, e3]

end Rows

/-! ## Columns of the mesh -/

/-- The test the kernel makes of its column. -/
abbrev inCol (c : Dev nD) (w : BitVec 32) : Prop := Scalar.cmpi .ne (Scalar.extui (Scalar.cmpi .eq (ycol c) w)) 0#32 = 1#1

theorem inCol_zero (c : Dev nD) : inCol c 0#32 ↔ c.val % 2 = 0 := by
  revert c; decide
theorem inCol_one (c : Dev nD) : inCol c 1#32 ↔ c.val % 2 = 1 := by
  revert c; decide

end Cert.TwoRound

end
-- ==== Proof.Steps.lean ====
/-
  One rule for each step of the program: what it needs, and what the program goes on with.
-/
module

public import proofs.«01_k».proof.Proof.Geo

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## What every step may use -/

/-- A device and one of its semaphores, -/
abbrev Cell : Type := Dev nD × SemLoc sig
/-- as a cell. -/
abbrev kcell (p : Cell) : GSem nD τ sig := ((p.1 : Thread nD τ), p.2)

/-- Every cell's invariant, that every cell has reached its first round, and the levels. -/
def ctx (K : Cell → ℕ) : sProp 𝕄 :=
  iprop((bigSep Finset.univ fun p : Cell => cellInv ER (Rd m) (K p) (kcell p))
    ∗ (bigSep Finset.univ fun p : Cell => reached ER (kcell p) 0) ∗ levAts L lv)

instance ctx_persistent (K : Cell → ℕ) : BI.Persistent (ctx m K) := by unfold ctx; infer_instance

variable (K : Cell → ℕ)

theorem inv_of (p : Cell) : (bigSep Finset.univ fun p : Cell => (cellInv ER (Rd m) (K p) (kcell p) : sProp 𝕄)) ⊢ cellInv ER (Rd m) (K p) (kcell p) :=
  bigSep_elim (Finset.mem_univ p)
theorem reached_of (p : Cell) : (bigSep Finset.univ fun p : Cell => (reached ER (kcell p) 0 : sProp 𝕄)) ⊢ reached ER (kcell p) 0 :=
  bigSep_elim (Finset.mem_univ p)

theorem inv_at (c : Dev nD) (sm : SemLoc sig) : ctx m K ⊢ cellInv ER (Rd m) (K (c, sm)) ((c : Thread nD τ), sm) := by
  unfold ctx
  iintro ⟨#H, -, -⟩
  iapply (inv_of m K (c, sm)); iexact H

theorem reached_at (c : Dev nD) (sm : SemLoc sig) : ctx m K ⊢ reached ER ((c : Thread nD τ), sm) 0 := by
  unfold ctx
  iintro ⟨-, #H, -⟩
  iapply (reached_of (F := F) (c, sm)); iexact H

theorem levs_at : ctx m K ⊢ levAts L lv := by
  unfold ctx
  iintro ⟨-, -, #H⟩
  iexact H

/-! ## Programs on a core -/

/-- The core's weakest precondition. -/
abbrev wpc (c : Dev nD) (p : PP F PUnit) (Q : PUnit → sProp 𝕄) : sProp 𝕄 :=
  wp frame (wpE (defs₀ (F := F)) 𝒱₀ (c : Thread nD τ) none) Set.univ p Q

/-- From `P`, `p` runs on and leaves `P'`. -/
def Step (c : Dev nD) (P : sProp 𝕄) (p : PP F PUnit) (P' : sProp 𝕄) : Prop :=
  ∀ (k : PUnit → PP F PUnit) (Q : PUnit → sProp 𝕄), iprop(ctx m K ∗ P) ⊢ iprop((P' -∗ wpc c (k ⟨⟩) Q) -∗ wpc c (p >>= k) Q)

variable {m K}

theorem Step.go {c : Dev nD} {P P' : sProp 𝕄} {p : PP F PUnit} (h : Step m K c P p P') {k : PUnit → PP F PUnit} {Q : PUnit → sProp 𝕄} :
    iprop(ctx m K ∗ P) ⊢ iprop((P' -∗ wpc c (k ⟨⟩) Q) -∗ wpc c (p >>= k) Q) := h k Q

/-- One step after another. -/
theorem Step.seq {c : Dev nD} {P P' P'' : sProp 𝕄} {p q : PP F PUnit} (h : Step m K c P p P') (h' : Step m K c P' q P'') :
    Step m K c P (p >>= fun _ => q) P'' := by
  intro k Q
  rw [bind_assoc]
  iintro ⟨#Hc, HP⟩ Hk
  iapply (h.go (k := fun _ => q >>= k)) $$ [HP]
  · isplitr; · iexact Hc
    iexact HP
  iintro HP
  iapply (h'.go (k := k)) $$ [HP]
  · isplitr; · iexact Hc
    iexact HP
  iexact Hk

theorem Step.nil {c : Dev nD} {P P' : sProp 𝕄} (h : iprop(ctx m K ∗ P) ⊢ P') : Step m K c P (pure ⟨⟩) P' := by
  intro k Q
  rw [pure_bind]
  iintro H Hk
  iapply Hk
  iapply h; iexact H

/-- A step leaves the rest as it is. -/
theorem Step.frame {c : Dev nD} {P P' : sProp 𝕄} {p : PP F PUnit} (R : sProp 𝕄) (h : Step m K c P p P') :
    Step m K c iprop(P ∗ R) p iprop(P' ∗ R) := by
  intro k Q
  iintro ⟨#Hc, HP, HR⟩ Hk
  iapply (h.go (k := k)) $$ [HP]
  · isplitr; · iexact Hc
    iexact HP
  iintro HP
  iapply Hk
  isplitl [HP] <;> iassumption

/-- Read what a step needs and what it leaves as one likes. -/
theorem Step.conv {c : Dev nD} {P P' R R' : sProp 𝕄} {p : PP F PUnit} (h : Step m K c P p P')
    (h1 : iprop(ctx m K ∗ R) ⊢ P) (h2 : iprop(ctx m K ∗ P') ⊢ R') : Step m K c R p R' := by
  intro k Q
  iintro ⟨#Hc, HR⟩ Hk
  iapply (h.go (k := k)) $$ [HR]
  · isplitr; · iexact Hc
    iapply h1; isplitr; · iexact Hc
    iexact HR
  iintro HP
  iapply Hk
  iapply h2; isplitr; · iexact Hc
  iexact HP

theorem Step.doIf_true {c : Dev nD} {P P' : sProp 𝕄} {p : PP F PUnit} {b : Bool} (hb : b = true) (h : Step m K c P p P') :
    Step m K c P (doIf b p) P' := by
  subst hb; exact h
theorem Step.doIf_false {c : Dev nD} {P : sProp 𝕄} {p : PP F PUnit} {b : Bool} (hb : b = false) :
    Step m K c P (doIf b p) P := by
  subst hb; exact Step.nil (by iintro ⟨-, H⟩; iexact H)

theorem lift_bind {α β : Type} (e : TpuEff nD τ sig (Elt F) Λ₀ .tc α) (k : α → PP F β) : (Prog.lift e >>= k) = .op e k := rfl

variable (m K)

/-! ## States of a transfer, of what is owed and of the credit semaphores -/

/-- Chunk `k`'s transfer is on its way. -/
def fly (κ : Kd) (c : Dev nD) (k : ℕ) : sProp 𝕄 := iprop(atPos ER (dc κ c k) (k / 2) ∅ 0 ∗ cred (tallyAt (dc κ c k) k (amt κ)))
/-- Chunk `k`'s cell is ready for it. -/
def idle (κ : Kd) (c : Dev nD) (k : ℕ) : sProp 𝕄 := iprop(atPos ER (dc κ c k) (k / 2) ∅ 0 ∗ reached ER (dc κ c k) (k / 2))
/-- The right to pay for chunk `k`'s transfer. -/
abbrev tok (κ : Kd) (c : Dev nD) (k : ℕ) : sProp 𝕄 := dutyTok ER (dc κ c k) (k / 2) 0
/-- What the core owes. -/
def ow (c : Dev nD) (a b d e : ℕ) : sProp 𝕄 := iprop(∃ W, owes (c : Thread nD τ) (Owed c a b d e) W)
/-- `n` credits taken. -/
def crAt (c : Dev nD) (s : Sem sig) (n : ℕ) : sProp 𝕄 :=
  if n < 6 then iprop(∃ T, atPos ER ((c : Thread nD τ), .reg s) 0 T n) else atPos ER ((c : Thread nD τ), .reg s) 1 ∅ 0

/-! ## Waits -/

/-- A wait on a DMA cell. -/
theorem wait_dma {c : Dev nD} {κ : Kd} {k a b d e : ℕ} (hk : k < 8)
    (hl : lvd κ k < 10 * a + 11 ∧ lvd κ k < 10 * d + 14 ∧ lvd κ k < 10 * e + 13 ∧ lvd κ k < 10 * b + 22)
    {w : TpuEff nD τ sig (Elt F) Λ₀ .tc PUnit}
    (hw : ∀ C : PUnit → sProp 𝕄, wpE (defs₀ (F := F)) 𝒱₀ (c : Thread nD τ) none Set.univ w C
      = waitSpec (c : Thread nD τ) Set.univ (.dma (sem κ (sl k))) (amt κ) C) :
    Step m K c iprop(fly κ c k ∗ ow c a b d e) (Prog.lift w) iprop(idle κ c (k + 2) ∗ pay m κ c k ∗ ow c a b d e) := by
  intro k' Q
  rw [lift_bind]
  unfold fly ow
  iintro ⟨#Hc, ⟨Hat, Hcr⟩, ⟨%W, HO⟩⟩ Hk
  iapply (Rounds.wp_wait_rest_token 𝒱₀ ER (Rd m) (c : Thread nD τ) none (κ := K (c, .dma (sem κ (sl k)))) hw (Set.mem_univ _) k
      (O := Owed c a b d e) (W := W) (R := k / 2) (m := 0) (T := ∅) (by rw [expect_dc m κ c k hk, Nat.zero_add])) $$ [Hat Hcr HO]
  · isplitr; · iapply (inv_at m K c _); iexact Hc
    isplitl [Hcr]; · iexact Hcr
    isplitl [HO]; · iexact HO
    isplitr
    · iapply (mayWait c _ k hk (by rw [lv_dc]; exact hl)); iapply (levs_at m K); iexact Hc
    iexact Hat
  iintro ⟨HO, Hat, #Hr, Hp⟩
  ihave Hp' := (Entails.of_eq (show bigSep ((Rd m).duties (dc κ c k) (k / 2) \ ∅) (fun d => (Rd m).payload (dc κ c k) (k / 2) d) = pay m κ c k from by
    rw [Finset.sdiff_empty, duties_dc m κ c k hk, bigSep_singleton, payload_dc])) $$ Hp
  iapply Hk
  isplitl [Hat]
  · unfold idle
    have e1 : dc κ c (k + 2) = dc κ c k := by unfold dc; rw [sl_add_two]
    have e2 : (k + 2) / 2 = k / 2 + 1 := by omega
    rw [e1, e2]
    isplitl [Hat]; · iexact Hat
    iexact Hr
  isplitl [Hp']; · iexact Hp'
  iexists _; iexact HO

theorem wait_ld {c : Dev nD} {k a b d e : ℕ} (hk : k < 8) :
    Step m K c iprop(fly .ld c k ∗ ow c a b d e) (waitLd k) iprop(idle .ld c (k + 2) ∗ pay m .ld c k ∗ ow c a b d e) :=
  wait_dma m K hk (by unfold lvd; dsimp only; omega) (wpE_waitDma2_eq 𝒱₀ (c : Thread nD τ) none Set.univ)
theorem wait_st {c : Dev nD} {k a b d e : ℕ} (hk : k < 8) :
    Step m K c iprop(fly .st c k ∗ ow c a b d e) (waitSt k) iprop(idle .st c (k + 2) ∗ pay m .st c k ∗ ow c a b d e) :=
  wait_dma m K hk (by unfold lvd; dsimp only; omega) (wpE_waitDma2_eq 𝒱₀ (c : Thread nD τ) none Set.univ)
theorem wait_xs {c : Dev nD} {k a b d e : ℕ} (hk : k < 8) :
    Step m K c iprop(fly .xs c k ∗ ow c a b d e) (waitXs k) iprop(idle .xs c (k + 2) ∗ pay m .xs c k ∗ ow c a b d e) :=
  wait_dma m K hk (by unfold lvd; dsimp only; omega) (wpE_waitDma2_eq 𝒱₀ (c : Thread nD τ) none Set.univ)
theorem wait_ys {c : Dev nD} {k a b d e : ℕ} (hk : k < 8) :
    Step m K c iprop(fly .ys c k ∗ ow c a b d e) (waitYs k) iprop(idle .ys c (k + 2) ∗ pay m .ys c k ∗ ow c a b d e) :=
  wait_dma m K hk (by unfold lvd; dsimp only; omega) (wpE_waitDma2_eq 𝒱₀ (c : Thread nD τ) none Set.univ)
theorem wait_xr {c : Dev nD} {k a b d e : ℕ} (hk : k < 8) (hl : k < a ∧ k ≤ d ∧ k ≤ e ∧ k ≤ b + 1) :
    Step m K c iprop(fly .xr c k ∗ ow c a b d e) (waitXr k) iprop(idle .xr c (k + 2) ∗ pay m .xr c k ∗ ow c a b d e) :=
  wait_dma m K hk (by unfold lvd; dsimp only; omega) (wpE_waitDma2_eq 𝒱₀ (c : Thread nD τ) none Set.univ)
theorem wait_yr {c : Dev nD} {k a b d e : ℕ} (hk : k < 8) (hl : k < a ∧ k < d ∧ k < e ∧ k ≤ b) :
    Step m K c iprop(fly .yr c k ∗ ow c a b d e) (waitYr k) iprop(idle .yr c (k + 2) ∗ pay m .yr c k ∗ ow c a b d e) :=
  wait_dma m K hk (by unfold lvd; dsimp only; omega) (wpE_waitDma2_eq 𝒱₀ (c : Thread nD τ) none Set.univ)

/-- A wait for one credit. -/
theorem wait_cr {c : Dev nD} {s : Sem sig} (hs : s ≠ barSem) {n a b d e : ℕ} (hn : n < 6)
    (hl : lv ((c : Thread nD τ), .reg s) n < 10 * a + 11 ∧ lv ((c : Thread nD τ), .reg s) n < 10 * d + 14
      ∧ lv ((c : Thread nD τ), .reg s) n < 10 * e + 13 ∧ lv ((c : Thread nD τ), .reg s) n < 10 * b + 22) :
    Step m K c iprop(crAt c s n ∗ cred (tallyAt ((c : Thread nD τ), .reg s) n 1) ∗ ow c a b d e) (semWaitWord s 1#32) iprop(crAt c s (n + 1) ∗ ow c a b d e) := by
  intro k' Q
  have hd : (Rd m).expect ((c : Thread nD τ), .reg s) 0 = 6 := by
    have hd : (Rd m).duties ((c : Thread nD τ), .reg s) 0 = Finset.range 6 := by
      rw [duties_tc]; show (if 0 = 0 then (if s = barSem then Finset.range 2 else Finset.range 6) else ∅) = _
      rw [if_pos rfl, if_neg hs]
    unfold Schedule.expect Schedule.amountOf; rw [hd]; rfl
  unfold ow crAt
  rw [if_pos hn]
  simp only [semWaitWord, lift_bind]
  iintro ⟨#Hc, ⟨%T, Hat⟩, Hcr, ⟨%W, HO⟩⟩ Hk
  by_cases h5 : n + 1 < 6
  · rw [if_pos h5]
    iapply (Rounds.wp_wait 𝒱₀ ER (Rd m) (c : Thread nD τ) none (κ := K (c, .reg s)) (wpE_semWait_eq 𝒱₀ (c : Thread nD τ) none Set.univ) (Set.mem_univ _)
        (cr := Finsupp.single n 1) (O := Owed c a b d e) (W := W) {(SemLoc.reg s, n)} (R := 0) (m := n) (T := T)
        (by rw [Util.total_single]; decide) (image_single_subset _ n 1)) $$ [Hat Hcr HO]
    · isplitr; · iapply (inv_at m K c _); iexact Hc
      isplitl [Hcr]; · iexact Hcr
      isplitl [HO]; · iexact HO
      isplitr
      · iapply (mayWait c _ n (by omega) hl); iapply (levs_at m K); iexact Hc
      iexact Hat
    iintro %S ⟨-, HO, Hat, -⟩
    iapply Hk
    isplitl [Hat]; · iexists S; iexact Hat
    iexists _; iexact HO
  · rw [if_neg h5]
    iapply (Rounds.wp_wait_rest_token 𝒱₀ ER (Rd m) (c : Thread nD τ) none (κ := K (c, .reg s)) (wpE_semWait_eq 𝒱₀ (c : Thread nD τ) none Set.univ) (Set.mem_univ _) n
        (O := Owed c a b d e) (W := W) (R := 0) (m := n) (T := T) (by rw [hd]; show n + 1 = 6; omega)) $$ [Hat Hcr HO]
    · isplitr; · iapply (inv_at m K c _); iexact Hc
      isplitl [Hcr]; · iexact Hcr
      isplitl [HO]; · iexact HO
      isplitr
      · iapply (mayWait c _ n (by omega) hl); iapply (levs_at m K); iexact Hc
      iexact Hat
    iintro ⟨HO, Hat, -, -⟩
    iapply Hk
    isplitl [Hat]; · iexact Hat
    iexists _; iexact HO

/-! ## Credits given -/

theorem signal_cr {c n : Dev nD} {s : Sem sig} (hs : s ≠ barSem) {j a b d e a' b' d' e' : ℕ} (hj : j < 6)
    (hO : Owed c a b d e = Owed c a' b' d' e' + tallyAt ((n : Thread nD τ), .reg s) j 1) :
    Step m K c iprop(dutyTok ER ((n : Thread nD τ), .reg s) 0 j ∗ ow c a b d e) (semSignalWord n s 1#32) (ow c a' b' d' e') := by
  intro k' Q
  have hd : (Rd m).duties ((n : Thread nD τ), .reg s) 0 = Finset.range 6 := by
    rw [duties_tc]; show (if 0 = 0 then (if s = barSem then Finset.range 2 else Finset.range 6) else ∅) = _
    rw [if_pos rfl, if_neg hs]
  have hp : (Rd m).payload ((n : Thread nD τ), .reg s) 0 j = iprop(emp) := by
    show (if s = barSem then barPay n j else iprop(emp)) = _; exact if_neg hs
  unfold ow
  simp only [semSignalWord, lift_bind]
  iintro ⟨#Hc, Ht, ⟨%W, HO⟩⟩ Hk
  iapply (Rounds.wp_signal 𝒱₀ ER (Rd m) (c : Thread nD τ) none (dst := (n : Thread nD τ)) (κ := K (n, .reg s)) (r := 0) (d := j)
      (by rw [hd]; exact Finset.mem_range.mpr hj) ((amount_reg m n s 0 j).trans (by decide)) j (Owed c a' b' d' e') hO) $$ [HO Ht]
  · isplitr; · iapply (inv_at m K n _); iexact Hc
    isplitl [HO]; · iexact HO
    isplitl [Ht]; · iexact Ht
    isplitr; · rw [hp]; iempintro
    iapply (reached_at m K n _); iexact Hc
  iintro HO
  iapply Hk
  iexists _; iexact HO

end Cert.TwoRound

end
-- ==== Proof.Moves.lean ====
/-
  The rules for the transfers, the loads, the stores and the barrier.
-/
module

public import proofs.«01_k».proof.Proof.Steps

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Cell → ℕ)

theorem anyAt_def (c : Dev nD) {sp : Space} {s : Shape} {e : EltTy} (M : Memref sig .tc sp s e) :
    (anyAt (F := F) c M : sProp 𝕄) = iprop(∃ f, M.view.loc (c : Thread nD τ) ↦[M.view.set]{fullShare} f) := rfl
theorem valAt_def (c : Dev nD) {sp : Space} {s : Shape} {e : EltTy} (M : Memref sig .tc sp s e) (v : s.Idx → Elt F e) :
    (valAt (F := F) c M v : sProp 𝕄) = iprop(∃ f, ⌜M.view.read (Elt F) f = v⌝ ∗ (M.view.loc (c : Thread nD τ) ↦[M.view.set]{fullShare} f)) := rfl
theorem valAt_intro (c : Dev nD) {sp : Space} {s : Shape} {e : EltTy} (M : Memref sig .tc sp s e) {v : s.Idx → Elt F e}
    (f : Buf (Elt F) (M.view.loc (c : Thread nD τ))) (h : M.view.read (Elt F) f = v) :
    (M.view.loc (c : Thread nD τ) ↦[M.view.set]{fullShare} f : sProp 𝕄) ⊢ valAt c M v := by
  unfold valAt
  iintro H
  iexists f
  isplitr; · ipureintro; exact h
  iexact H
theorem valAt_any (c : Dev nD) {sp : Space} {s : Shape} {e : EltTy} (M : Memref sig .tc sp s e) (v : s.Idx → Elt F e) :
    (valAt (F := F) c M v : sProp 𝕄) ⊢ anyAt c M := by
  unfold valAt anyAt
  iintro ⟨%f, -, H⟩
  iexists f; iexact H
/-- What a view holds after everything under it was written. -/
theorem valAt_write (c : Dev nD) {sp : Space} {s : Shape} {e : EltTy} (M : Memref sig .tc sp s e) {v w : s.Idx → Elt F e}
    (f : Buf (Elt F) (M.view.loc (c : Thread nD τ))) (h : w = v) :
    (M.view.loc (c : Thread nD τ) ↦[M.view.set]{fullShare} M.view.write (Elt F) f w Finset.univ : sProp 𝕄) ⊢ valAt c M v :=
  valAt_intro c M _ ((View.read_write_univ f w).trans h)

/-! ## Copies on one device -/

theorem start_ld {c : Dev nD} {k : ℕ} (hk : k < 8) :
    Step m K c iprop(tok .ld c k ∗ idle .ld c k ∗ xPts m fullShare.right c k ∗ anyAt c (vxS (sl k))) (startLd k) (fly .ld c k) := by
  intro k' Q
  unfold startLd xPts anyAt idle fly
  rw [lift_bind]
  iintro ⟨#Hc, Ht, ⟨Hat, #Hr⟩, Hx, ⟨%f, Hv⟩⟩ Hk
  iapply (Rounds.wp_copy_pointsTo 𝒱₀ ER (Rd m) (c : Thread nD τ) none (κ := K (c, .dma (sem .ld (sl k)))) (r := k / 2) (d := 0) (q := fullShare.right)
      (fs := X m c) (fd := f) (by rw [duties_dc m .ld c k hk]; exact Finset.mem_singleton_self _) k (amt .ld) rfl (amount_dc m .ld c k _ _)
      (by
        rw [payload_dc]; unfold pay xPts; dsimp only
        iintro ⟨Hd, Hs⟩
        isplitl [Hd]
        · iapply (valAt_write _ (vxS (sl k)) f rfl); iexact Hd
        iexact Hs)) $$ [Ht Hx Hv]
  · isplitr; · iapply (inv_at m K c _); iexact Hc
    isplitl [Hx]; · iexact Hx
    isplitl [Hv]; · iexact Hv
    isplitl [Ht]; · iexact Ht
    iexact Hr
  iintro Hcr
  iapply Hk
  isplitl [Hat] <;> iassumption

theorem start_st {c : Dev nD} {k : ℕ} (hk : k < 8) :
    Step m K c iprop(tok .st c k ∗ idle .st c k ∗ valAt c (voS (sl k)) (outChunk m c k) ∗ anyAt c (oRow (rw8 k))) (startSt k) (fly .st c k) := by
  intro k' Q
  unfold startSt valAt anyAt idle fly
  rw [lift_bind]
  iintro ⟨#Hc, Ht, ⟨Hat, #Hr⟩, ⟨%g, %hg, Hv⟩, ⟨%f, Ho⟩⟩ Hk
  iapply (Rounds.wp_copy_pointsTo 𝒱₀ ER (Rd m) (c : Thread nD τ) none (κ := K (c, .dma (sem .st (sl k)))) (r := k / 2) (d := 0) (q := fullShare)
      (fs := g) (fd := f) (by rw [duties_dc m .st c k hk]; exact Finset.mem_singleton_self _) k (amt .st) rfl (amount_dc m .st c k _ _)
      (by
        rw [payload_dc]; unfold pay oPts anyAt; dsimp only
        iintro ⟨Hd, Hs⟩
        isplitl [Hd]
        · iapply (Entails.of_eq (pointsTo_congr (show ∀ i ∈ (oRow (rw8 k)).view.set, (oRow (rw8 k)).view.write (Elt F) f ((voS (sl k)).view.read (Elt F) g) Finset.univ i = outV m c i from fun i hi => by
            rw [hg]; exact write_rows m c k hk f i hi)))
          iexact Hd
        iexists _; iexact Hs)) $$ [Ht Hv Ho]
  · isplitr; · iapply (inv_at m K c _); iexact Hc
    isplitl [Hv]; · iexact Hv
    isplitl [Ho]; · iexact Ho
    isplitl [Ht]; · iexact Ht
    iexact Hr
  iintro Hcr
  iapply Hk
  isplitl [Hat] <;> iassumption

/-! ## Transfers to a neighbour -/

theorem send_x {c : Dev nD} {k a b d e : ℕ} (hk : k < 8) (ha : a = k) :
    Step m K c iprop(tok .xs c k ∗ tok .xr (xn c) k ∗ idle .xs c k ∗ xPts m fullShare.left c k ∗ rightX (xn c) k
        ∗ giveIf (1 ≤ k ∧ k < 7) (rightX c (k + 1)) ∗ ow c a b d e)
      (sendX c k) iprop(fly .xs c k ∗ ow c (a + 1) b d e) := by
  subst ha
  intro k' Q
  unfold sendX xPts rightX anyAt idle fly ow
  rw [lift_bind]
  iintro ⟨#Hc, Hts, Htr, ⟨Hat, #Hr⟩, Hx, ⟨⟨%f, Hv⟩, #Hr'⟩, Hg, ⟨%W, HO⟩⟩ Hk
  iapply (Rounds.wp_send_pointsTo_with 𝒱₀ ER (Rd m) (c : Thread nD τ) none (c' := (xn c : Thread nD τ))
      (κ₁ := K (c, .dma (sem .xs (sl a)))) (κ₂ := K (xn c, .dma (sem .xr (sl a)))) (r₁ := a / 2) (r₂ := a / 2) (d₁ := 0) (d₂ := 0)
      (q := fullShare.left) (fs := X m c) (fd := f) (F := giveIf (1 ≤ a ∧ a < 7) (rightX c (a + 1))) (sS := .dma (xsSem (sl a))) (sem := .dma (xrSem (sl a)))
      (by show 0 ∈ (Rd m).duties (dc .xs c a) (a / 2); rw [duties_dc m .xs c a hk]; exact Finset.mem_singleton_self _)
      (by show 0 ∈ (Rd m).duties (dc .xr (xn c) a) (a / 2); rw [duties_dc m .xr (xn c) a hk]; exact Finset.mem_singleton_self _)
      a a (amt .xr) rfl (amount_dc m .xs c a _ _) (amount_dc m .xr (xn c) a _ _) (Owed c (a + 1) b d e) (owed_xr c hk) (W := W)
      (by
        show _ ⊢ (Rd m).payload (dc .xs c a) (a / 2) 0
        rw [payload_dc]; unfold pay xPts; exact Entails.refl _)
      (by
        show _ ⊢ (Rd m).payload (dc .xr (xn c) a) (a / 2) 0
        rw [payload_dc]; unfold pay; dsimp only; rw [xn_xn]
        iintro ⟨Hd, Hs⟩
        isplitl [Hd]
        · iapply (valAt_write _ (xrS (sl a)) f rfl); iexact Hd
        iexact Hs)) $$ [Hts Htr Hx Hv Hg HO]
  · isplitr; · iapply (inv_at m K c _); iexact Hc
    isplitr; · iapply (inv_at m K (xn c) _); iexact Hc
    isplitl [Hx]; · iexact Hx
    isplitl [Hv Hg]
    · isplitl [Hv]; · iexact Hv
      unfold rightX anyAt; iexact Hg
    isplitl [HO]; · iexact HO
    isplitl [Hts]; · iexact Hts
    isplitr; · iexact Hr
    isplitl [Htr]; · iexact Htr
    iexact Hr'
  iintro ⟨Hcr, HO⟩
  iapply Hk
  isplitl [Hat Hcr]
  · isplitl [Hat]; · iexact Hat
    iexact Hcr
  iexists W; iexact HO

theorem send_y {c : Dev nD} {k a b d e : ℕ} (hk : k < 8) (hd : d = k) :
    Step m K c iprop(tok .ys c k ∗ tok .yr (yn c) k ∗ idle .ys c k ∗ valAt c (psS (sl k)) (narrow (psumAt m c k)) ∗ rightY (yn c) k
        ∗ giveIf (1 ≤ k ∧ k < 7) (rightY c (k + 1)) ∗ ow c a b d e)
      (sendY c k) iprop(fly .ys c k ∗ ow c a b (d + 1) e) := by
  subst hd
  intro k' Q
  unfold sendY valAt rightY anyAt idle fly ow
  rw [lift_bind]
  iintro ⟨#Hc, Hts, Htr, ⟨Hat, #Hr⟩, ⟨%p, %hp, Hx⟩, ⟨⟨%f, Hv⟩, #Hr'⟩, Hg, ⟨%W, HO⟩⟩ Hk
  iapply (Rounds.wp_send_pointsTo_with 𝒱₀ ER (Rd m) (c : Thread nD τ) none (c' := (yn c : Thread nD τ))
      (κ₁ := K (c, .dma (sem .ys (sl d)))) (κ₂ := K (yn c, .dma (sem .yr (sl d)))) (r₁ := d / 2) (r₂ := d / 2) (d₁ := 0) (d₂ := 0)
      (q := fullShare) (fs := p) (fd := f) (F := giveIf (1 ≤ d ∧ d < 7) (rightY c (d + 1))) (sS := .dma (ysSem (sl d))) (sem := .dma (yrSem (sl d)))
      (by show 0 ∈ (Rd m).duties (dc .ys c d) (d / 2); rw [duties_dc m .ys c d hk]; exact Finset.mem_singleton_self _)
      (by show 0 ∈ (Rd m).duties (dc .yr (yn c) d) (d / 2); rw [duties_dc m .yr (yn c) d hk]; exact Finset.mem_singleton_self _)
      d d (amt .yr) rfl (amount_dc m .ys c d _ _) (amount_dc m .yr (yn c) d _ _) (Owed c a b (d + 1) e) (owed_yr c hk) (W := W)
      (by
        show _ ⊢ (Rd m).payload (dc .ys c d) (d / 2) 0
        rw [payload_dc]; unfold pay anyAt; dsimp only
        iintro H; iexists p; iexact H)
      (by
        show _ ⊢ (Rd m).payload (dc .yr (yn c) d) (d / 2) 0
        rw [payload_dc]; unfold pay recvAt; dsimp only; rw [yn_yn]
        iintro ⟨Hd, Hs⟩
        isplitl [Hd]
        · iapply (valAt_write _ (yrS (sl d)) f hp); iexact Hd
        iexact Hs)) $$ [Hts Htr Hx Hv Hg HO]
  · isplitr; · iapply (inv_at m K c _); iexact Hc
    isplitr; · iapply (inv_at m K (yn c) _); iexact Hc
    isplitl [Hx]; · iexact Hx
    isplitl [Hv Hg]
    · isplitl [Hv]; · iexact Hv
      unfold rightY anyAt; iexact Hg
    isplitl [HO]; · iexact HO
    isplitl [Hts]; · iexact Hts
    isplitr; · iexact Hr
    isplitl [Htr]; · iexact Htr
    iexact Hr'
  iintro ⟨Hcr, HO⟩
  iapply Hk
  isplitl [Hat Hcr]
  · isplitl [Hat]; · iexact Hat
    iexact Hcr
  iexists W; iexact HO

/-! ## Loads -/

variable {m K}

theorem load_vx {c : Dev nD} {k : ℕ} {x : FVec F S512x2048 .f32} {R P' : sProp 𝕄} {f : Vec F S1x512x2048 .f32 → PP F PUnit}
    (h : ∀ v, flat v = x → Step m K c iprop(valAt c (vxS (sl k)) x ∗ R) (f v) P') :
    Step m K c iprop(valAt c (vxS (sl k)) x ∗ R) (loadSlot vxM k >>= f) P' := by
  intro k' Q
  rw [bind_assoc]; unfold loadSlot; rw [lift_bind]
  rw [valAt_def] at h ⊢
  iintro ⟨#Hc, ⟨%g, %hg, Hv⟩, HR⟩ Hk
  iapply (wp_load_rect 𝒱₀ (c : Thread nD τ) none Set.univ (m := vxM) (r := slotR (sl k)) (S := (vxS (sl k)).view.set) (q := fullShare) (f := g)
    (by rw [set_vx])) $$ Hv
  iintro Hv
  iapply ((h _ ((flat_read_vx (sl k) g).trans hg)).go (k := k')) $$ [Hv HR]
  · isplitr; · iexact Hc
    isplitl [Hv]
    · iexists g
      isplitr; · ipureintro; exact hg
      iexact Hv
    iexact HR
  iexact Hk

theorem load_xr {c : Dev nD} {k : ℕ} {x : FVec F S512x2048 .f32} {R P' : sProp 𝕄} {f : Vec F S1x512x2048 .f32 → PP F PUnit}
    (h : ∀ v, flat v = x → Step m K c iprop(valAt c (xrS (sl k)) x ∗ R) (f v) P') :
    Step m K c iprop(valAt c (xrS (sl k)) x ∗ R) (loadSlot xrM k >>= f) P' := by
  intro k' Q
  rw [bind_assoc]; unfold loadSlot; rw [lift_bind]
  rw [valAt_def] at h ⊢
  iintro ⟨#Hc, ⟨%g, %hg, Hv⟩, HR⟩ Hk
  iapply (wp_load_rect 𝒱₀ (c : Thread nD τ) none Set.univ (m := xrM) (r := slotR (sl k)) (S := (xrS (sl k)).view.set) (q := fullShare) (f := g)
    (by rw [set_xr])) $$ Hv
  iintro Hv
  iapply ((h _ ((flat_read_xr (sl k) g).trans hg)).go (k := k')) $$ [Hv HR]
  · isplitr; · iexact Hc
    isplitl [Hv]
    · iexists g
      isplitr; · ipureintro; exact hg
      iexact Hv
    iexact HR
  iexact Hk

theorem load_yr {c : Dev nD} {k : ℕ} {x : FVec F S512x2048 .bf16} {R P' : sProp 𝕄} {f : Vec F S1x512x2048 .bf16 → PP F PUnit}
    (h : ∀ v, flat v = x → Step m K c iprop(valAt c (yrS (sl k)) x ∗ R) (f v) P') :
    Step m K c iprop(valAt c (yrS (sl k)) x ∗ R) (loadSlot yrM k >>= f) P' := by
  intro k' Q
  rw [bind_assoc]; unfold loadSlot; rw [lift_bind]
  rw [valAt_def] at h ⊢
  iintro ⟨#Hc, ⟨%g, %hg, Hv⟩, HR⟩ Hk
  iapply (wp_load_rect 𝒱₀ (c : Thread nD τ) none Set.univ (m := yrM) (r := slotR (sl k)) (S := (yrS (sl k)).view.set) (q := fullShare) (f := g)
    (by rw [set_yr])) $$ Hv
  iintro Hv
  iapply ((h _ ((flat_read_yr (sl k) g).trans hg)).go (k := k')) $$ [Hv HR]
  · isplitr; · iexact Hc
    isplitl [Hv]
    · iexists g
      isplitr; · ipureintro; exact hg
      iexact Hv
    iexact HR
  iexact Hk

/-! ## Stores -/

variable (m K)

theorem store_ps {c : Dev nD} {k : ℕ} (w : FVec F S512x2048 .bf16) :
    Step m K c (anyAt c (psS (sl k))) (storePs k (lead w)) (valAt c (psS (sl k)) w) := by
  intro k' Q
  unfold storePs anyAt
  rw [bind_assoc]; simp only [lift_bind]
  iintro ⟨#Hc, ⟨%g, Hv⟩⟩ Hk
  iapply (wp_load_rect 𝒱₀ (c : Thread nD τ) none Set.univ (m := psM) (r := slotR (sl k)) (S := (psS (sl k)).view.set) (q := fullShare) (f := g)
    (by rw [set_ps])) $$ Hv
  iintro Hv
  iapply (wp_store 𝒱₀ (c : Thread nD τ) none Set.univ (m := psM) (r := slotR (sl k)) (Mk := Finset.univ) (S := (psS (sl k)).view.set) (f := g)
    (by rw [View.setOn_univ, set_ps])) $$ Hv
  iintro Hv
  iapply Hk
  iapply (valAt_intro c (psS (sl k)) _ (read_ps (sl k) g w)); iexact Hv

/-- The staging slot at contents `f`. -/
def voPts (c : Dev nD) (k : ℕ) (f : Buf (Elt F) ((c : Thread nD τ).loc cc0_scratch4)) : sProp 𝕄 :=
  (voS (sl k)).view.loc (c : Thread nD τ) ↦[(voS (sl k)).view.set]{fullShare} f

theorem store_hit {c : Dev nD} {w : BitVec 32} (hw : inCol c w) {k : ℕ} (h : Fin 2) (x : FVec F S512x2048 .f32)
    (f : Buf (Elt F) ((c : Thread nD τ).loc cc0_scratch4)) :
    Step m K c (voPts c k f) (storeHalf (ycol c) w k h (lead x))
      (voPts c k ((voM.access (halfR (sl k) h)).write (Elt F) f (lead x) Finset.univ)) := by
  intro k' Q
  unfold storeHalf voPts
  rw [dif_pos hw]
  simp only [bind_assoc, lift_bind, pure_bind]
  iintro ⟨#Hc, Hv⟩ Hk
  iapply (wp_load_rect 𝒱₀ (c : Thread nD τ) none Set.univ (m := voM) (r := halfR (sl k) h) (S := (voS (sl k)).view.set) (q := fullShare) (f := f)
    (set_half (sl k) h)) $$ Hv
  iintro Hv
  simp only [lift_bind]
  iapply (wp_store 𝒱₀ (c : Thread nD τ) none Set.univ (m := voM) (r := halfR (sl k) h) (Mk := Finset.univ) (S := (voS (sl k)).view.set) (f := f)
    (by rw [View.setOn_univ]; exact set_half (sl k) h)) $$ Hv
  iintro Hv
  iapply Hk
  iexact Hv

theorem store_miss {c : Dev nD} {w : BitVec 32} (hw : ¬ inCol c w) {k : ℕ} (h : Fin 2) (x : FVec F S512x2048 .f32) (R : sProp 𝕄) :
    Step m K c R (storeHalf (ycol c) w k h (lead x)) R := by
  unfold storeHalf
  rw [dif_neg hw]
  exact Step.nil (by iintro ⟨-, H⟩; iexact H)

/-- Of the two stores the one for the device's column is made. -/
theorem store_two {c : Dev nD} {k : ℕ} (h₀ h₁ : Fin 2) (x : FVec F S512x2048 .f32) (f : Buf (Elt F) ((c : Thread nD τ).loc cc0_scratch4)) :
    Step m K c (voPts c k f) (storeHalf (ycol c) 0#32 k h₀ (lead x) >>= fun _ => storeHalf (ycol c) 1#32 k h₁ (lead x))
      (voPts c k ((voM.access (halfR (sl k) (if c.val % 2 = 0 then h₀ else h₁))).write (Elt F) f (lead x) Finset.univ)) := by
  by_cases hc : c.val % 2 = 0
  · rw [if_pos hc]
    have h1 : ¬ inCol c 1#32 := fun h => by have := (inCol_one c).mp h; omega
    exact Step.seq (store_hit m K ((inCol_zero c).mpr hc) h₀ x f) (store_miss m K h1 h₁ x _)
  · rw [if_neg hc]
    have h0 : ¬ inCol c 0#32 := fun h => hc ((inCol_zero c).mp h)
    have h1 : inCol c 1#32 := (inCol_one c).mpr (by omega)
    exact Step.seq (store_miss m K h0 h₀ x _) (store_hit m K h1 h₁ x f)

/-- The store into the half of parity `p` is read back there, -/
theorem own_read (p : ℕ) (s : Fin 2) (f : (cc0_scratch4 : Ref sig .tc).ty.Contents (Elt F)) (x : FVec F S512x2048 .f32) (hp : p < 2)
    (i : S512x4096.Idx) (hi : halfOf i = p) :
    (voS s).view.read (Elt F) ((voM.access (halfR s (if p = 0 then 0 else 1))).write (Elt F) f (lead x) Finset.univ) i = x (inHalf i) := by
  rw [read_half, if_pos]
  rw [hi]; by_cases h : p = 0
  · rw [if_pos h, h]; rfl
  · rw [if_neg h]; show p = 1; omega

/-- and the store into the other half leaves it. -/
theorem other_read (p : ℕ) (s : Fin 2) (f : (cc0_scratch4 : Ref sig .tc).ty.Contents (Elt F)) (x y : FVec F S512x2048 .f32) (hp : p < 2)
    (hf : ∀ i, halfOf i = p → (voS s).view.read (Elt F) f i = x (inHalf i)) (i : S512x4096.Idx) :
    (voS s).view.read (Elt F) ((voM.access (halfR s (if p = 0 then 1 else 0))).write (Elt F) f (lead y) Finset.univ) i
      = if halfOf i = p then x (inHalf i) else y (inHalf i) := by
  have hi : halfOf i < 2 := by unfold halfOf; have h : (i 1).val < 4096 := (i 1).isLt; omega
  have hv : (if p = 0 then (1 : Fin 2) else 0).val = 1 - p := by
    by_cases h : p = 0
    · rw [if_pos h, h]; rfl
    · rw [if_neg h]; show 0 = 1 - p; omega
  rw [read_half, hv]
  by_cases h : halfOf i = p
  · rw [if_neg (by omega), if_pos h]; exact hf i h
  · rw [if_pos (by omega), if_neg h]

/-- The staging slot with the device's own half at `x`. -/
def halfAt (c : Dev nD) (k : ℕ) (x : FVec F S512x2048 .f32) : sProp 𝕄 :=
  iprop(∃ f, ⌜∀ i, halfOf i = c.val % 2 → (voS (sl k)).view.read (Elt F) f i = x (inHalf i)⌝ ∗ voPts c k f)

theorem store_own {c : Dev nD} {k : ℕ} (x : FVec F S512x2048 .f32) :
    Step m K c (anyAt c (voS (sl k))) (storeHalf (ycol c) 0#32 k 0 (lead x) >>= fun _ => storeHalf (ycol c) 1#32 k 1 (lead x)) (halfAt c k x) := by
  intro k' Q
  rw [anyAt_def]
  iintro ⟨#Hc, ⟨%f, Hv⟩⟩ Hk
  iapply ((store_two m K 0 1 x f).go (k := k')) $$ [Hv]
  · isplitr; · iexact Hc
    unfold voPts; iexact Hv
  iintro Hv
  iapply Hk
  unfold halfAt; iexists _
  isplitr
  rotate_left
  · iexact Hv
  · ipureintro; exact own_read (c.val % 2) (sl k) f x (Nat.mod_lt _ (by decide))

theorem store_other {c : Dev nD} {k : ℕ} (x y : FVec F S512x2048 .f32) :
    Step m K c (halfAt c k x) (storeHalf (ycol c) 0#32 k 1 (lead y) >>= fun _ => storeHalf (ycol c) 1#32 k 0 (lead y))
      (valAt c (voS (sl k)) (fun i => if halfOf i = c.val % 2 then x (inHalf i) else y (inHalf i))) := by
  intro k' Q
  unfold halfAt
  iintro ⟨#Hc, ⟨%f, %hf, Hv⟩⟩ Hk
  iapply ((store_two m K 1 0 y f).go (k := k')) $$ [Hv]
  · isplitr; · iexact Hc
    iexact Hv
  iintro Hv
  iapply Hk
  unfold voPts
  iapply (valAt_intro c (voS (sl k)) _ (funext (other_read (c.val % 2) (sl k) f x y (Nat.mod_lt _ (by decide)) hf))) $$ Hv

/-! ## The barrier -/

/-- What is owed at the start. -/
def Owed₀ (c : Dev nD) : CellTallies nD τ sig ℕ := Owed c 0 0 0 0 + tallyAt (bar (yn c)) 0 1 + tallyAt (bar (xn c)) 0 1

theorem barrier {c : Dev nD} {W : Waits sig ℕ} :
    Step m K c iprop(owes (c : Thread nD τ) (Owed₀ c) W ∗ dutyTok ER (bar (xn c)) 0 0 ∗ dutyTok ER (bar (yn c)) 0 1
        ∗ (rightX c 0 ∗ rightX c 1) ∗ (rightY c 0 ∗ rightY c 1) ∗ atPos ER (bar c) 0 ∅ 0 ∗ cred (tallyAt (bar c) 0 2))
      (start c) iprop(ow c 0 0 0 0 ∗ atPos ER (bar c) 1 ∅ 0 ∗ (rightX (xn c) 0 ∗ rightX (xn c) 1) ∗ (rightY (yn c) 0 ∗ rightY (yn c) 1)) := by
  intro k' Q
  unfold start Owed₀
  simp only [semSignalWord, semWaitWord, Prog.lift, bind_assoc]
  iintro ⟨#Hc, HO, Htx, Hty, HX, HY, Hat, Hcr⟩ Hk
  iapply (Rounds.wp_signal 𝒱₀ ER (Rd m) (c : Thread nD τ) none (dst := (xn c : Thread nD τ)) (κ := K (xn c, .reg barSem)) (r := 0) (d := 0)
      (by rw [duties_bar]; decide) ((amount_reg m (xn c) barSem 0 0).trans (by decide)) 0 (Owed c 0 0 0 0 + tallyAt (bar (yn c)) 0 1) rfl) $$ [HO Htx HX]
  · isplitr; · iapply (inv_at m K (xn c) _); iexact Hc
    isplitl [HO]; · iexact HO
    isplitl [Htx]; · iexact Htx
    isplitl [HX]
    · rw [payload_bar]; unfold barPay; rw [if_pos rfl, xn_xn]; iexact HX
    iapply (reached_at m K (xn c) _); iexact Hc
  iintro HO
  iapply (Rounds.wp_signal 𝒱₀ ER (Rd m) (c : Thread nD τ) none (dst := (yn c : Thread nD τ)) (κ := K (yn c, .reg barSem)) (r := 0) (d := 1)
      (by rw [duties_bar]; decide) ((amount_reg m (yn c) barSem 0 1).trans (by decide)) 0 (Owed c 0 0 0 0) rfl) $$ [HO Hty HY]
  · isplitr; · iapply (inv_at m K (yn c) _); iexact Hc
    isplitl [HO]; · iexact HO
    isplitl [Hty]; · iexact Hty
    isplitl [HY]
    · rw [payload_bar]; unfold barPay; rw [if_neg (by decide), yn_yn]; iexact HY
    iapply (reached_at m K (yn c) _); iexact Hc
  iintro HO
  iapply (Rounds.wp_wait_rest_token 𝒱₀ ER (Rd m) (c : Thread nD τ) none (κ := K (c, .reg barSem)) (wpE_semWait_eq 𝒱₀ (c : Thread nD τ) none Set.univ) (Set.mem_univ _) 0
      (O := Owed c 0 0 0 0) (W := W) (R := 0) (m := 0) (T := ∅) (by rw [expect_bar]; decide)) $$ [Hat Hcr HO]
  · isplitr; · iapply (inv_at m K c _); iexact Hc
    isplitl [Hcr]; · iexact Hcr
    isplitl [HO]; · iexact HO
    isplitr
    · iapply (mayWait c _ 0 (by omega) (by rw [lv_bar]; omega)); iapply (levs_at m K); iexact Hc
    iexact Hat
  iintro ⟨HO, Hat, -, Hp⟩
  ihave Hp' := (Entails.of_eq (show bigSep ((Rd m).duties (bar c) 0 \ ∅) (fun d => (Rd m).payload (bar c) 0 d)
      = iprop((rightX (xn c) 0 ∗ rightX (xn c) 1) ∗ (rightY (yn c) 0 ∗ rightY (yn c) 1)) from by
    rw [Finset.sdiff_empty, duties_bar, show Finset.range 2 = insert 0 {1} from rfl, bigSep_insert (by decide), bigSep_singleton, payload_bar, payload_bar]
    rfl)) $$ Hp
  iapply Hk
  isplitl [HO]; · unfold ow; iexists _; iexact HO
  isplitl [Hat]; · iexact Hat
  iexact Hp'

end Cert.TwoRound

end
-- ==== Proof.Blocks.lean ====
/-
  The three blocks of an iteration and the last waits, each proved once at a symbolic device and a symbolic chunk.
-/
module

public import proofs.«01_k».proof.Proof.Moves

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Cell → ℕ)

theorem giveIf_true {b : Prop} [Decidable b] (h : b) (R : sProp 𝕄) : giveIf b R = R := if_pos h
theorem giveIf_false {b : Prop} [Decidable b] (h : ¬ b) (R : sProp 𝕄) : giveIf b R = iprop(emp) := if_neg h

/-! ## Pieces of the state -/

/-- The position of the cell that chunk `k` uses. -/
def at' (κ : Kd) (c : Dev nD) (k : ℕ) : sProp 𝕄 := atPos ER (dc κ c k) (k / 2) ∅ 0

theorem idle_def (κ : Kd) (c : Dev nD) (k : ℕ) : (idle κ c k : sProp 𝕄) = iprop(at' κ c k ∗ reached ER (dc κ c k) (k / 2)) := rfl

/-- The load side, free for chunk `k`. -/
def ldFree (c : Dev nD) (k : ℕ) : sProp 𝕄 := iprop(idle .ld c k ∗ anyAt c (vxS (sl k)))

/-- The column send side before chunk `k`: free at first, then still sending chunk `k - 2`. -/
def xsSt (c : Dev nD) (k : ℕ) : sProp 𝕄 := if k < 2 then idle .xs c k else fly .xs c (k - 2)
/-- The row send side before chunk `k`. -/
def ysSt (c : Dev nD) (k : ℕ) : sProp 𝕄 := if k < 2 then iprop(idle .ys c k ∗ anyAt c (psS (sl k))) else fly .ys c (k - 2)
/-- The staging side before chunk `k`. -/
def stSt (c : Dev nD) (k : ℕ) : sProp 𝕄 := if k < 2 then iprop(idle .st c k ∗ anyAt c (voS (sl k))) else fly .st c (k - 2)

theorem xsSt_next (c : Dev nD) (k : ℕ) : (xsSt c (k + 2) : sProp 𝕄) = fly .xs c k := if_neg (by omega)
theorem ysSt_next (c : Dev nD) (k : ℕ) : (ysSt c (k + 2) : sProp 𝕄) = fly .ys c k := if_neg (by omega)
theorem stSt_next (c : Dev nD) (k : ℕ) : (stSt c (k + 2) : sProp 𝕄) = fly .st c k := if_neg (by omega)

/-- The staging slot of chunk `k` with the device's own half stored. -/
def voHalf (c : Dev nD) (k : ℕ) : sProp 𝕄 := iprop(idle .st c k ∗ halfAt c k (psumAt m c k))

/-- What sending and loading chunk `k` uses up. -/
def inA (c : Dev nD) (k : ℕ) : sProp 𝕄 :=
  iprop(tok .xs c k ∗ tok .xr (xn c) k ∗ tok .ld c k ∗ xPts m fullShare.left c k ∗ xPts m fullShare.right c k
    ∗ giveIf (2 ≤ k) (cred (tallyAt (cxc c) (k - 2) 1)))
/-- What storing chunk `k` uses up. -/
def inB (c : Dev nD) (k : ℕ) : sProp 𝕄 :=
  iprop(tok .st c k ∗ anyAt c (oRow (rw8 k)) ∗ cred (tallyAt (dc .yr c k) k (amt .yr)) ∗ giveIf (k < 6) (dutyTok ER (cyc (yn c)) 0 k))
/-- What summing chunk `k` and sending it across the row uses up. -/
def inC (c : Dev nD) (k : ℕ) : sProp 𝕄 :=
  iprop(tok .ys c k ∗ tok .yr (yn c) k ∗ cred (tallyAt (dc .xr c k) k (amt .xr)) ∗ giveIf (k < 6) (dutyTok ER (cxc (xn c)) 0 k)
    ∗ giveIf (2 ≤ k) (cred (tallyAt (cyc c) (k - 2) 1)))

/-! ## The conditional steps -/

theorem owed_e (c : Dev nD) {a b d e e' : ℕ} (h : 6 ≤ e) (h' : 6 ≤ e') : Owed c a b d e = Owed c a b d e' := by
  unfold Owed; rw [Finset.Ico_eq_empty_of_le h, Finset.Ico_eq_empty_of_le h']
theorem owed_b (c : Dev nD) {a b b' d e : ℕ} (h : 6 ≤ b) (h' : 6 ≤ b') : Owed c a b d e = Owed c a b' d e := by
  unfold Owed; rw [Finset.Ico_eq_empty_of_le h, Finset.Ico_eq_empty_of_le h']

theorem maybe_signal_cx (c : Dev nD) (k a b d : ℕ) :
    Step m K c iprop(giveIf (k < 6) (dutyTok ER (cxc (xn c)) 0 k) ∗ ow c a b d k) (doIf (k < 6) (semSignalWord (xn c) cxSem 1#32)) (ow c a b d (k + 1)) := by
  by_cases h : k < 6
  · rw [giveIf_true h]
    exact (signal_cr m K cx_ne_bar h (owed_cx c h)).doIf_true (decide_eq_true h)
  · rw [giveIf_false h, show (ow c a b d (k + 1) : sProp 𝕄) = ow c a b d k from by unfold ow; rw [owed_e c (e := k + 1) (e' := k) (by omega) (by omega)]]
    refine (Step.doIf_false (decide_eq_false h)).conv (R := iprop(emp ∗ ow c a b d k)) (P := ow c a b d k) ?_ ?_
    · iintro ⟨-, -, H⟩; iexact H
    · iintro ⟨-, H⟩; iexact H

theorem maybe_signal_cy (c : Dev nD) (k a d e : ℕ) :
    Step m K c iprop(giveIf (k < 6) (dutyTok ER (cyc (yn c)) 0 k) ∗ ow c a k d e) (doIf (k < 6) (semSignalWord (yn c) cySem 1#32)) (ow c a (k + 1) d e) := by
  by_cases h : k < 6
  · rw [giveIf_true h]
    exact (signal_cr m K cy_ne_bar h (owed_cy c h)).doIf_true (decide_eq_true h)
  · rw [giveIf_false h, show (ow c a (k + 1) d e : sProp 𝕄) = ow c a k d e from by unfold ow; rw [owed_b c (b := k + 1) (b' := k) (by omega) (by omega)]]
    refine (Step.doIf_false (decide_eq_false h)).conv (R := iprop(emp ∗ ow c a k d e)) (P := ow c a k d e) ?_ ?_
    · iintro ⟨-, -, H⟩; iexact H
    · iintro ⟨-, H⟩; iexact H

theorem maybe_wait_cx {c : Dev nD} {k a b d e : ℕ} (hk : k < 8) (hl : k ≤ a + 1 ∧ k ≤ d + 1 ∧ k ≤ e + 1 ∧ k ≤ b + 2) :
    Step m K c iprop(crAt c cxSem (k - 2) ∗ giveIf (2 ≤ k) (cred (tallyAt (cxc c) (k - 2) 1)) ∗ ow c a b d e)
      (doIf (2 ≤ k) (semWaitWord cxSem 1#32)) iprop(crAt c cxSem (k - 1) ∗ ow c a b d e) := by
  by_cases h : 2 ≤ k
  · rw [giveIf_true h, show k - 1 = k - 2 + 1 from by omega]
    exact (wait_cr m K cx_ne_bar (by omega) (by rw [lv_cx]; omega)).doIf_true (decide_eq_true h)
  · rw [giveIf_false h, show k - 1 = k - 2 from by omega]
    refine (Step.doIf_false (decide_eq_false h)).conv (P := iprop(crAt c cxSem (k - 2) ∗ ow c a b d e)) ?_ ?_
    · iintro ⟨-, H, -, H'⟩; isplitl [H] <;> iassumption
    · iintro ⟨-, H⟩; iexact H

theorem maybe_wait_cy {c : Dev nD} {k a b d e : ℕ} (hk : k < 8) (hl : k ≤ a ∧ k ≤ d ∧ k ≤ e ∧ k ≤ b + 1) :
    Step m K c iprop(crAt c cySem (k - 2) ∗ giveIf (2 ≤ k) (cred (tallyAt (cyc c) (k - 2) 1)) ∗ ow c a b d e)
      (doIf (2 ≤ k) (semWaitWord cySem 1#32)) iprop(crAt c cySem (k - 1) ∗ ow c a b d e) := by
  by_cases h : 2 ≤ k
  · rw [giveIf_true h, show k - 1 = k - 2 + 1 from by omega]
    exact (wait_cr m K cy_ne_bar (by omega) (by rw [lv_cy]; omega)).doIf_true (decide_eq_true h)
  · rw [giveIf_false h, show k - 1 = k - 2 from by omega]
    refine (Step.doIf_false (decide_eq_false h)).conv (P := iprop(crAt c cySem (k - 2) ∗ ow c a b d e)) ?_ ?_
    · iintro ⟨-, H, -, H'⟩; isplitl [H] <;> iassumption
    · iintro ⟨-, H⟩; iexact H

theorem maybe_wait_xs {c : Dev nD} {k a b d e : ℕ} (hk : k < 10) :
    Step m K c iprop(xsSt c k ∗ ow c a b d e) (doIf (2 ≤ k) (waitXs (k - 2)))
      iprop(idle .xs c k ∗ giveIf (2 ≤ k) (xPts m fullShare.left c (k - 2)) ∗ ow c a b d e) := by
  unfold xsSt
  by_cases h : 2 ≤ k
  · rw [giveIf_true h, if_neg (by omega)]
    have := (wait_xs m K (c := c) (k := k - 2) (a := a) (b := b) (d := d) (e := e) (by omega)).doIf_true (decide_eq_true h)
    rw [show k - 2 + 2 = k from by omega] at this; exact this
  · rw [giveIf_false h, if_pos (by omega)]
    refine (Step.doIf_false (decide_eq_false h)).conv (P := iprop(idle .xs c k ∗ ow c a b d e)) ?_ ?_
    · iintro ⟨-, H⟩; iexact H
    · iintro ⟨-, H, H'⟩
      isplitl [H]; · iexact H
      isplitr; · iempintro
      iexact H'

theorem maybe_wait_ys {c : Dev nD} {k a b d e : ℕ} (hk : k < 10) :
    Step m K c iprop(ysSt c k ∗ ow c a b d e) (doIf (2 ≤ k) (waitYs (k - 2)))
      iprop(idle .ys c k ∗ anyAt c (psS (sl k)) ∗ ow c a b d e) := by
  unfold ysSt
  by_cases h : 2 ≤ k
  · rw [if_neg (by omega)]
    have := (wait_ys m K (c := c) (k := k - 2) (a := a) (b := b) (d := d) (e := e) (by omega)).doIf_true (decide_eq_true h)
    rw [show k - 2 + 2 = k from by omega] at this
    rw [show sl k = sl (k - 2) from by rw [← sl_add_two (k - 2), show k - 2 + 2 = k from by omega]]
    exact this
  · rw [if_pos (by omega)]
    refine (Step.doIf_false (decide_eq_false h)).conv (P := iprop((idle .ys c k ∗ anyAt c (psS (sl k))) ∗ ow c a b d e)) ?_ ?_
    · iintro ⟨-, H⟩; iexact H
    · iintro ⟨-, ⟨H, H''⟩, H'⟩
      isplitl [H]; · iexact H
      isplitl [H''] <;> iassumption

theorem maybe_wait_st {c : Dev nD} {k a b d e : ℕ} (hk : k < 10) :
    Step m K c iprop(stSt c k ∗ ow c a b d e) (doIf (2 ≤ k) (waitSt (k - 2)))
      iprop(idle .st c k ∗ anyAt c (voS (sl k)) ∗ giveIf (2 ≤ k) (oPts m c (k - 2)) ∗ ow c a b d e) := by
  unfold stSt
  by_cases h : 2 ≤ k
  · rw [giveIf_true h, if_neg (by omega)]
    have := (wait_st m K (c := c) (k := k - 2) (a := a) (b := b) (d := d) (e := e) (by omega)).doIf_true (decide_eq_true h)
    rw [show k - 2 + 2 = k from by omega] at this
    rw [show sl k = sl (k - 2) from by rw [← sl_add_two (k - 2), show k - 2 + 2 = k from by omega]]
    refine this.conv (by iintro ⟨-, H⟩; iexact H) ?_
    unfold pay; dsimp only
    iintro ⟨-, H1, ⟨H2, H3⟩, H4⟩
    isplitl [H1]; · iexact H1
    isplitl [H3]; · iexact H3
    isplitl [H2] <;> iassumption
  · rw [giveIf_false h, if_pos (by omega)]
    refine (Step.doIf_false (decide_eq_false h)).conv (P := iprop((idle .st c k ∗ anyAt c (voS (sl k))) ∗ ow c a b d e)) ?_ ?_
    · iintro ⟨-, H⟩; iexact H
    · iintro ⟨-, ⟨H, H''⟩, H'⟩
      isplitl [H]; · iexact H
      isplitl [H'']; · iexact H''
      isplitr; · iempintro
      iexact H'

/-! ## The blocks -/

theorem block_a {c : Dev nD} {k b : ℕ} (hk : k < 8) (hb : k ≤ b + 1) :
    Step m K c iprop(inA m c k ∗ ldFree c k ∗ xsSt c k ∗ rightX (xn c) k ∗ giveIf (1 ≤ k ∧ k < 7) (rightX c (k + 1)) ∗ crAt c cxSem (k - 2) ∗ ow c k b k k)
      (blockA c k)
      iprop(fly .ld c k ∗ xsSt c (k + 2) ∗ giveIf (2 ≤ k) (xPts m fullShare.left c (k - 2)) ∗ crAt c cxSem (k - 1) ∗ ow c (k + 1) b k k) := by
  intro k' Q
  unfold blockA inA ldFree
  simp only [bind_assoc]
  iintro ⟨#Hc, ⟨Htxs, Htxr, Htld, HxL, HxR, Hcr⟩, ⟨Hld, Hvx⟩, Hxs, HR, Hg, Hcx, HO⟩ Hk
  iapply ((maybe_wait_cx m K (c := c) (k := k) (a := k) (b := b) (d := k) (e := k) hk (by omega)).go) $$ [Hcx Hcr HO]
  · isplitr; · iexact Hc
    isplitl [Hcx]; · iexact Hcx
    isplitl [Hcr] <;> iassumption
  iintro ⟨Hcx, HO⟩
  iapply ((maybe_wait_xs m K (c := c) (k := k) (a := k) (b := b) (d := k) (e := k) (by omega)).go) $$ [Hxs HO]
  · isplitr; · iexact Hc
    isplitl [Hxs] <;> iassumption
  iintro ⟨Hxs, Hdone, HO⟩
  iapply ((send_x m K (c := c) (k := k) (a := k) (b := b) (d := k) (e := k) hk rfl).go) $$ [Htxs Htxr Hxs HxL HR Hg HO]
  · isplitr; · iexact Hc
    isplitl [Htxs]; · iexact Htxs
    isplitl [Htxr]; · iexact Htxr
    isplitl [Hxs]; · iexact Hxs
    isplitl [HxL]; · iexact HxL
    isplitl [HR]; · iexact HR
    isplitl [Hg] <;> iassumption
  iintro ⟨Hxs, HO⟩
  iapply ((start_ld m K (c := c) (k := k) hk).go) $$ [Htld Hld HxR Hvx]
  · isplitr; · iexact Hc
    isplitl [Htld]; · iexact Htld
    isplitl [Hld]; · iexact Hld
    isplitl [HxR] <;> iassumption
  iintro Hld
  iapply Hk
  isplitl [Hld]; · iexact Hld
  isplitl [Hxs]; · rw [xsSt_next]; iexact Hxs
  isplitl [Hdone]; · iexact Hdone
  isplitl [Hcx] <;> iassumption

/-- The end of the second block: from the load on. -/
def tailB (c : Dev nD) (j : ℕ) : PP F PUnit := do
  let v ← loadSlot yrM j
  storeHalf (ycol c) 0#32 j 1 (lead (widen (flat v)))
  storeHalf (ycol c) 1#32 j 0 (lead (widen (flat v)))
  startSt j

theorem blockB_eq (c : Dev nD) (j : ℕ) :
    (blockB c j : PP F PUnit) = (waitYr j >>= fun _ => doIf (j < 6) (semSignalWord (yn c) cySem 1#32) >>= fun _ => tailB c j) := rfl

theorem tail_b {c : Dev nD} {j : ℕ} (hj : j < 8) :
    Step m K c iprop(valAt c (yrS (sl j)) (recvAt m c j) ∗ halfAt c j (psumAt m c j) ∗ tok .st c j ∗ idle .st c j ∗ anyAt c (oRow (rw8 j)))
      (tailB c j) iprop(anyAt c (yrS (sl j)) ∗ fly .st c j) := by
  unfold tailB
  refine load_yr fun v hv => ?_
  rw [hv, ← bind_assoc]
  intro k' Q
  rw [bind_assoc]
  iintro ⟨#Hc, Hv, Hh, Ht, Hst, Ho⟩ Hk
  iapply ((store_other m K (c := c) (k := j) (psumAt m c j) (widen (recvAt m c j))).go) $$ [Hh]
  · isplitr; · iexact Hc
    iexact Hh
  iintro Hh
  iapply ((start_st m K (c := c) (k := j) hj).go) $$ [Hh Ht Hst Ho]
  · isplitr; · iexact Hc
    isplitl [Ht]; · iexact Ht
    isplitl [Hst]; · iexact Hst
    isplitl [Hh]; · iexact Hh
    iexact Ho
  iintro Hst
  iapply Hk
  isplitl [Hv]; · iapply (valAt_any c (yrS (sl j)) _); iexact Hv
  iexact Hst

theorem block_b {c : Dev nD} {j a d : ℕ} (hj : j < 8) (ha : j < a) (hd : j < d) :
    Step m K c iprop(inB c j ∗ at' .yr c j ∗ voHalf m c j ∗ ow c a j d d)
      (blockB c j)
      iprop(at' .yr c (j + 2) ∗ rightY c (j + 2) ∗ giveIf (1 ≤ j ∧ j < 7) (rightY (yn c) (j + 1)) ∗ stSt c (j + 2) ∗ ow c a (j + 1) d d) := by
  rw [blockB_eq]
  unfold inB voHalf
  intro k' Q
  simp only [bind_assoc]
  iintro ⟨#Hc, ⟨Htst, Ho, Hcr, Hsig⟩, Hyr, ⟨Hst, Hh⟩, HO⟩ Hk
  iapply ((wait_yr m K (c := c) (k := j) (a := a) (b := j) (d := d) (e := d) hj (by omega)).go) $$ [Hyr Hcr HO]
  · isplitr; · iexact Hc
    isplitr [HO]
    · unfold fly at'; isplitl [Hyr] <;> iassumption
    iexact HO
  iintro ⟨Hidle, Hpay, HO⟩
  ihave Hidle' := (Entails.of_eq (idle_def .yr c (j + 2))) $$ Hidle
  icases Hidle' with ⟨Hyr, #Hr⟩
  ihave Hpay' := (Entails.of_eq (show pay m .yr c j
    = iprop(valAt c (yrS (sl j)) (recvAt m c j) ∗ giveIf (1 ≤ j ∧ j < 7) (rightY (yn c) (j + 1))) from rfl)) $$ Hpay
  icases Hpay' with ⟨Hv, Hg⟩
  iapply ((maybe_signal_cy m K c j a d d).go) $$ [Hsig HO]
  · isplitr; · iexact Hc
    isplitl [Hsig] <;> iassumption
  iintro HO
  iapply ((tail_b m K (c := c) (j := j) hj).go) $$ [Hv Hh Htst Hst Ho]
  · isplitr; · iexact Hc
    isplitl [Hv]; · iexact Hv
    isplitl [Hh]; · iexact Hh
    isplitl [Htst]; · iexact Htst
    isplitl [Hst] <;> iassumption
  iintro ⟨Hv, Hst⟩
  iapply Hk
  isplitl [Hyr]; · iexact Hyr
  isplitl [Hv]
  · unfold rightY; rw [sl_add_two]
    isplitl [Hv]; · iexact Hv
    iexact Hr
  isplitl [Hg]; · iexact Hg
  isplitl [Hst]; · rw [stSt_next]; iexact Hst
  iexact HO

/-- The middle of the third block: the loads, the sum and the stores. -/
def tailC (c : Dev nD) (k : ℕ) : PP F PUnit := do
  let v ← loadSlot vxM k
  let w ← loadSlot xrM k
  storeHalf (ycol c) 0#32 k 0 (lead (psum v w))
  storeHalf (ycol c) 1#32 k 1 (lead (psum v w))
  storePs k (lead (narrow (psum v w)))

theorem blockC_eq (c : Dev nD) (k : ℕ) :
    (blockC c k : PP F PUnit) = (doIf (2 ≤ k) (waitSt (k - 2)) >>= fun _ => doIf (2 ≤ k) (waitYs (k - 2)) >>= fun _ => waitLd k >>= fun _ => waitXr k >>= fun _ =>
      doIf (k < 6) (semSignalWord (xn c) cxSem 1#32) >>= fun _ => tailC c k >>= fun _ => doIf (2 ≤ k) (semWaitWord cySem 1#32) >>= fun _ => sendY c k) := by
  unfold blockC tailC; simp only [bind_assoc]

theorem tail_c {c : Dev nD} {k : ℕ} :
    Step m K c iprop(valAt c (vxS (sl k)) (chunk m c k) ∗ valAt c (xrS (sl k)) (chunk m (xn c) k) ∗ anyAt c (voS (sl k)) ∗ anyAt c (psS (sl k)))
      (tailC c k)
      iprop(anyAt c (vxS (sl k)) ∗ anyAt c (xrS (sl k)) ∗ halfAt c k (psumAt m c k) ∗ valAt c (psS (sl k)) (narrow (psumAt m c k))) := by
  unfold tailC
  refine load_vx fun v hv => ?_
  refine Step.conv (load_xr (x := chunk m (xn c) k) (R := iprop(valAt c (vxS (sl k)) (chunk m c k) ∗ anyAt c (voS (sl k)) ∗ anyAt c (psS (sl k))))
    (P' := iprop(anyAt c (vxS (sl k)) ∗ anyAt c (xrS (sl k)) ∗ halfAt c k (psumAt m c k) ∗ valAt c (psS (sl k)) (narrow (psumAt m c k))))
    fun w hw => ?_) ?_ ?_
  rotate_left
  · iintro ⟨-, H1, H2, H3⟩
    isplitl [H2]; · iexact H2
    isplitl [H1] <;> iassumption
  · iintro ⟨-, H⟩; iexact H
  have hs : psum v w = psumAt m c k := by unfold psum psumAt; rw [hv, hw]
  rw [hs, ← bind_assoc]
  intro k' Q
  rw [bind_assoc]
  iintro ⟨#Hc, Hr, Hv, Hh, Hp⟩ Hk
  iapply ((store_own m K (c := c) (k := k) (psumAt m c k)).go) $$ [Hh]
  · isplitr; · iexact Hc
    iexact Hh
  iintro Hh
  iapply ((store_ps m K (c := c) (k := k) (narrow (psumAt m c k))).go) $$ [Hp]
  · isplitr; · iexact Hc
    iexact Hp
  iintro Hp
  iapply Hk
  isplitl [Hv]; · iapply (valAt_any c (vxS (sl k)) _); iexact Hv
  isplitl [Hr]; · iapply (valAt_any c (xrS (sl k)) _); iexact Hr
  isplitl [Hh] <;> iassumption

theorem block_c {c : Dev nD} {k b : ℕ} (hk : k < 8) (hb : k ≤ b + 1) :
    Step m K c iprop(inC c k ∗ stSt c k ∗ ysSt c k ∗ fly .ld c k ∗ at' .xr c k ∗ rightY (yn c) k ∗ giveIf (1 ≤ k ∧ k < 7) (rightY c (k + 1))
        ∗ crAt c cySem (k - 2) ∗ ow c (k + 1) b k k)
      (blockC c k)
      iprop(voHalf m c k ∗ giveIf (2 ≤ k) (oPts m c (k - 2)) ∗ ysSt c (k + 2) ∗ ldFree c (k + 2) ∗ xPts m fullShare.right c k ∗ at' .xr c (k + 2)
        ∗ rightX c (k + 2) ∗ giveIf (1 ≤ k ∧ k < 7) (rightX (xn c) (k + 1)) ∗ crAt c cySem (k - 1) ∗ ow c (k + 1) b (k + 1) (k + 1)) := by
  rw [blockC_eq]
  unfold inC
  intro k' Q
  simp only [bind_assoc]
  iintro ⟨#Hc, ⟨Htys, Htyr, Hcr, Hsig, Hcry⟩, Hst, Hys, Hld, Hxr, HR, Hg, Hcy, HO⟩ Hk
  iapply ((maybe_wait_st m K (c := c) (k := k) (a := k + 1) (b := b) (d := k) (e := k) (by omega)).go) $$ [Hst HO]
  · isplitr; · iexact Hc
    isplitl [Hst] <;> iassumption
  iintro ⟨Hst, Hvo, Hdone, HO⟩
  iapply ((maybe_wait_ys m K (c := c) (k := k) (a := k + 1) (b := b) (d := k) (e := k) (by omega)).go) $$ [Hys HO]
  · isplitr; · iexact Hc
    isplitl [Hys] <;> iassumption
  iintro ⟨Hys, Hps, HO⟩
  iapply ((wait_ld m K (c := c) (k := k) (a := k + 1) (b := b) (d := k) (e := k) hk).go) $$ [Hld HO]
  · isplitr; · iexact Hc
    isplitl [Hld] <;> iassumption
  iintro ⟨Hld, Hpay, HO⟩
  ihave Hpay' := (Entails.of_eq (show pay m .ld c k = iprop(valAt c (vxS (sl k)) (chunk m c k) ∗ xPts m fullShare.right c k) from rfl)) $$ Hpay
  icases Hpay' with ⟨Hvx, HxR⟩
  iapply ((wait_xr m K (c := c) (k := k) (a := k + 1) (b := b) (d := k) (e := k) hk (by omega)).go) $$ [Hxr Hcr HO]
  · isplitr; · iexact Hc
    isplitr [HO]
    · unfold fly at'; isplitl [Hxr] <;> iassumption
    iexact HO
  iintro ⟨Hidle, Hpay, HO⟩
  ihave Hpay' := (Entails.of_eq (show pay m .xr c k
    = iprop(valAt c (xrS (sl k)) (chunk m (xn c) k) ∗ giveIf (1 ≤ k ∧ k < 7) (rightX (xn c) (k + 1))) from rfl)) $$ Hpay
  icases Hpay' with ⟨Hxv, HgX⟩
  ihave Hidle' := (Entails.of_eq (idle_def .xr c (k + 2))) $$ Hidle
  icases Hidle' with ⟨Hxr, #Hr⟩
  iapply ((maybe_signal_cx m K c k (k + 1) b k).go) $$ [Hsig HO]
  · isplitr; · iexact Hc
    isplitl [Hsig] <;> iassumption
  iintro HO
  iapply ((tail_c m K (c := c) (k := k)).go) $$ [Hvx Hxv Hvo Hps]
  · isplitr; · iexact Hc
    isplitl [Hvx]; · iexact Hvx
    isplitl [Hxv]; · iexact Hxv
    isplitl [Hvo] <;> iassumption
  iintro ⟨Hvx, Hxv, Hvo, Hps⟩
  iapply ((maybe_wait_cy m K (c := c) (k := k) (a := k + 1) (b := b) (d := k) (e := k + 1) hk (by omega)).go) $$ [Hcy Hcry HO]
  · isplitr; · iexact Hc
    isplitl [Hcy]; · iexact Hcy
    isplitl [Hcry] <;> iassumption
  iintro ⟨Hcy, HO⟩
  iapply ((send_y m K (c := c) (k := k) (a := k + 1) (b := b) (d := k) (e := k + 1) hk rfl).go) $$ [Htys Htyr Hys Hps HR Hg HO]
  · isplitr; · iexact Hc
    isplitl [Htys]; · iexact Htys
    isplitl [Htyr]; · iexact Htyr
    isplitl [Hys]; · iexact Hys
    isplitl [Hps]; · iexact Hps
    isplitl [HR]; · iexact HR
    isplitl [Hg] <;> iassumption
  iintro ⟨Hys, HO⟩
  iapply Hk
  unfold voHalf ldFree rightX
  rw [sl_add_two, ysSt_next]
  isplitl [Hst Hvo]
  · isplitl [Hst] <;> iassumption
  isplitl [Hdone]; · iexact Hdone
  isplitl [Hys]; · iexact Hys
  isplitl [Hld Hvx]
  · isplitl [Hld] <;> iassumption
  isplitl [HxR]; · iexact HxR
  isplitl [Hxr]; · iexact Hxr
  isplitl [Hxv]
  · isplitl [Hxv]; · iexact Hxv
    iexact Hr
  isplitl [HgX]; · iexact HgX
  isplitl [Hcy] <;> iassumption

theorem drain_step {c : Dev nD} {k a b d e : ℕ} (hk : k < 8) :
    Step m K c iprop(xsSt c (k + 2) ∗ ysSt c (k + 2) ∗ stSt c (k + 2) ∗ ow c a b d e)
      (drain k)
      iprop((idle .xs c (k + 2) ∗ xPts m fullShare.left c k) ∗ (idle .ys c (k + 2) ∗ anyAt c (psS (sl k)))
        ∗ (idle .st c (k + 2) ∗ oPts m c k ∗ anyAt c (voS (sl k))) ∗ ow c a b d e) := by
  unfold drain
  intro k' Q
  simp only [bind_assoc]
  rw [xsSt_next, ysSt_next, stSt_next]
  iintro ⟨#Hc, Hxs, Hys, Hst, HO⟩ Hk
  iapply ((wait_xs m K (c := c) (k := k) (a := a) (b := b) (d := d) (e := e) hk).go) $$ [Hxs HO]
  · isplitr; · iexact Hc
    isplitl [Hxs] <;> iassumption
  iintro ⟨Hxs, Hp1, HO⟩
  iapply ((wait_ys m K (c := c) (k := k) (a := a) (b := b) (d := d) (e := e) hk).go) $$ [Hys HO]
  · isplitr; · iexact Hc
    isplitl [Hys] <;> iassumption
  iintro ⟨Hys, Hp2, HO⟩
  iapply ((wait_st m K (c := c) (k := k) (a := a) (b := b) (d := d) (e := e) hk).go) $$ [Hst HO]
  · isplitr; · iexact Hc
    isplitl [Hst] <;> iassumption
  iintro ⟨Hst, Hp3, HO⟩
  iapply Hk
  unfold pay; dsimp only
  isplitl [Hxs Hp1]
  · isplitl [Hxs] <;> iassumption
  isplitl [Hys Hp2]
  · isplitl [Hys] <;> iassumption
  isplitl [Hst Hp3]
  · isplitl [Hst] <;> iassumption
  iexact HO

end Cert.TwoRound

end
-- ==== Proof.Iter.lean ====
/-
  The iterations: the state between two of them, the step from one to the next, and the whole body from start to end.
-/
module

public import proofs.«01_k».proof.Proof.Blocks

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Cell → ℕ)

/-! ## What is still to be used, and what is finished -/

/-- The shares of the chunks from `n` on. -/
def rem (Φ : ℕ → sProp 𝕄) (n : ℕ) : sProp 𝕄 := bigSep (Finset.Ico n 8) Φ
/-- The shares of the chunks before `n`. -/
def done (Φ : ℕ → sProp 𝕄) (n : ℕ) : sProp 𝕄 := bigSep (Finset.range n) Φ

theorem rem_step (Φ : ℕ → sProp 𝕄) {n : ℕ} (h : n < 8) : rem Φ n = iprop(Φ n ∗ rem Φ (n + 1)) := by
  have e : Finset.Ico n 8 = insert n (Finset.Ico (n + 1) 8) := by
    ext k; simp only [Finset.mem_insert, Finset.mem_Ico]; omega
  unfold rem; rw [e, bigSep_insert (by simp)]; rfl

theorem done_step (Φ : ℕ → sProp 𝕄) (n : ℕ) : done Φ (n + 1) = iprop(Φ n ∗ done Φ n) := by
  unfold done; rw [Finset.range_add_one, bigSep_insert (by simp)]; rfl

theorem done_late (Φ : ℕ → sProp 𝕄) (k : ℕ) : iprop(giveIf (2 ≤ k) (Φ (k - 2)) ∗ done Φ (k - 2)) ⊢ done Φ (k + 1 - 2) := by
  by_cases h : 2 ≤ k
  · rw [giveIf_true h, show k + 1 - 2 = k - 2 + 1 from by omega, done_step]
  · rw [giveIf_false h, show k + 1 - 2 = k - 2 from by omega]
    iintro ⟨-, H⟩; iexact H

/-! ## The rights to send -/

/-- The rights held before chunk `k` is sent: the neighbour's next slot, and then the neighbour's slot after it (at
    first) or one's own slot, still to be handed on. -/
def rights (R₁ R₂ : ℕ → sProp 𝕄) (k : ℕ) : sProp 𝕄 :=
  iprop((if k < 8 then R₁ k else R₂ 8) ∗ (if k = 0 then R₁ 1 else R₂ (k + 1)))
/-- What stays when chunk `k` has been sent. -/
def kept (R₁ R₂ : ℕ → sProp 𝕄) (k : ℕ) : sProp 𝕄 := if k = 0 then R₁ 1 else if k < 7 then iprop(emp) else R₂ 8

theorem rights_use (R₁ R₂ : ℕ → sProp 𝕄) {k : ℕ} (hk : k < 8) :
    rights R₁ R₂ k ⊢ iprop(R₁ k ∗ giveIf (1 ≤ k ∧ k < 7) (R₂ (k + 1)) ∗ kept R₁ R₂ k) := by
  unfold rights kept
  rw [if_pos hk]
  by_cases h0 : k = 0
  · rw [if_pos h0, if_pos h0, giveIf_false (by omega)]
    iintro ⟨H, H'⟩
    isplitl [H]; · iexact H
    isplitr; · iempintro
    iexact H'
  · rw [if_neg h0, if_neg h0]
    by_cases h7 : k < 7
    · rw [giveIf_true ⟨by omega, h7⟩, if_pos h7]
      iintro ⟨H, H'⟩
      isplitl [H]; · iexact H
      isplitl [H']; · iexact H'
      iempintro
    · obtain rfl : k = 7 := by omega
      rw [giveIf_false (by omega), if_neg h7]
      iintro ⟨H, H'⟩
      isplitl [H]; · iexact H
      isplitr; · iempintro
      iexact H'

theorem rights_next (R₁ R₂ : ℕ → sProp 𝕄) {k : ℕ} (hk : k < 8) :
    iprop(R₂ (k + 2) ∗ giveIf (1 ≤ k ∧ k < 7) (R₁ (k + 1)) ∗ kept R₁ R₂ k) ⊢ rights R₁ R₂ (k + 1) := by
  unfold rights kept
  rw [if_neg (Nat.succ_ne_zero k)]
  by_cases h0 : k = 0
  · subst h0
    rw [if_pos rfl, giveIf_false (by omega), if_pos (by omega)]
    iintro ⟨H, -, H'⟩
    isplitl [H'] <;> iassumption
  · rw [if_neg h0]
    by_cases h7 : k < 7
    · rw [giveIf_true ⟨by omega, h7⟩, if_pos h7, if_pos (by omega)]
      iintro ⟨H, H', -⟩
      isplitl [H'] <;> iassumption
    · obtain rfl : k = 7 := by omega
      rw [giveIf_false (by omega), if_neg h7, if_neg (by omega)]
      iintro ⟨H, -, H'⟩
      isplitl [H'] <;> iassumption

abbrev rightsX (c : Dev nD) (k : ℕ) : sProp 𝕄 := rights (rightX (xn c)) (rightX c) k
abbrev rightsY (c : Dev nD) (k : ℕ) : sProp 𝕄 := rights (rightY (yn c)) (rightY c) k

/-! ## The state between two iterations -/

/-- What the second block of iteration `k` leaves: the chunk before is on its way out. -/
def postB (c : Dev nD) (k : ℕ) : sProp 𝕄 :=
  iprop(stSt c (k + 1) ∗ (at' .yr c k ∗ at' .yr c (k + 1)) ∗ rightsY c k ∗ rem (inB c) k)
/-- What it starts from: at first there is nothing to do, later the chunk before is half stored. -/
def preB (c : Dev nD) : ℕ → sProp 𝕄
  | 0 => postB c 0
  | j + 1 => iprop(voHalf m c j ∗ (at' .yr c j ∗ at' .yr c (j + 1)) ∗ kept (rightY (yn c)) (rightY c) j ∗ rem (inB c) j)

theorem preB_succ (c : Dev nD) (j : ℕ) : preB m c (j + 1)
    = iprop(voHalf m c j ∗ (at' .yr c j ∗ at' .yr c (j + 1)) ∗ kept (rightY (yn c)) (rightY c) j ∗ rem (inB c) j) := rfl

/-- The state before iteration `k`. -/
def St (c : Dev nD) (k : ℕ) : sProp 𝕄 :=
  iprop(rem (inA m c) k ∗ rem (inC c) k ∗ (ldFree c k ∗ ldFree c (k + 1)) ∗ (xsSt c k ∗ xsSt c (k + 1)) ∗ (at' .xr c k ∗ at' .xr c (k + 1))
    ∗ rightsX c k ∗ crAt c cxSem (k - 2) ∗ (ysSt c k ∗ ysSt c (k + 1)) ∗ stSt c k ∗ preB m c k ∗ crAt c cySem (k - 2)
    ∗ done (xPts m fullShare.left c) (k - 2) ∗ done (xPts m fullShare.right c) k ∗ done (oPts m c) (k - 2) ∗ ow c k (k - 1) k k)

theorem step_b {c : Dev nD} {k a d : ℕ} (hk : k ≤ 8) (ha : k ≤ a) (hd : k ≤ d) :
    Step m K c iprop(preB m c k ∗ ow c a (k - 1) d d) (doIf (k ≠ 0) (blockB c (k - 1))) iprop(postB c k ∗ ow c a k d d) := by
  match k, hk, ha, hd with
  | 0, _, _, _ => exact Step.doIf_false rfl
  | j + 1, hk, ha, hd =>
    refine Step.doIf_true (decide_eq_true (Nat.succ_ne_zero j)) ?_
    rw [Nat.add_sub_cancel]
    intro k' Q
    unfold postB
    rw [preB_succ, rem_step (inB c) (show j < 8 by omega)]
    iintro ⟨#Hc, ⟨Hvo, ⟨Hy0, Hy1⟩, Hk, ⟨HB, Hrem⟩⟩, HO⟩ Hq
    iapply ((block_b m K (c := c) (j := j) (a := a) (d := d) (by omega) (by omega) (by omega)).go) $$ [Hvo Hy0 HB HO]
    · isplitr; · iexact Hc
      isplitl [HB]; · iexact HB
      isplitl [Hy0]; · iexact Hy0
      isplitl [Hvo] <;> iassumption
    iintro ⟨Hy0, Hr, Hg, Hst, HO⟩
    iapply Hq
    isplitr [HO]
    · isplitl [Hst]; · iexact Hst
      isplitl [Hy0 Hy1]
      · isplitl [Hy1] <;> iassumption
      isplitr [Hrem]
      · iapply (rights_next (rightY (yn c)) (rightY c) (show j < 8 by omega))
        isplitl [Hr]; · iexact Hr
        isplitl [Hg] <;> iassumption
      iexact Hrem
    iexact HO

/-- One iteration. -/
def iter (c : Dev nD) (k : ℕ) : PP F PUnit := do
  blockA c k
  doIf (k ≠ 0) (blockB c (k - 1))
  blockC c k

theorem iter_step {c : Dev nD} {k : ℕ} (hk : k < 8) : Step m K c (St m c k) (iter c k) (St m c (k + 1)) := by
  intro k' Q
  unfold iter St
  rw [rem_step (inA m c) hk, rem_step (inC c) hk, done_step (xPts m fullShare.right c) k]
  simp only [bind_assoc]
  iintro ⟨#Hc, ⟨HA, HremA⟩, ⟨HC, HremC⟩, ⟨Hld, Hld1⟩, ⟨Hxs, Hxs1⟩, ⟨Hxr, Hxr1⟩, HRX, Hcx, ⟨Hys, Hys1⟩, Hst, HB, Hcy, HdL, HdR, HdO, HO⟩ Hq
  ihave HRX' := (rights_use (rightX (xn c)) (rightX c) hk) $$ HRX
  icases HRX' with ⟨HR, Hg, HkX⟩
  iapply ((block_a m K (c := c) (k := k) (b := k - 1) hk (by omega)).go) $$ [HA Hld Hxs HR Hg Hcx HO]
  · isplitr; · iexact Hc
    isplitl [HA]; · iexact HA
    isplitl [Hld]; · iexact Hld
    isplitl [Hxs]; · iexact Hxs
    isplitl [HR]; · iexact HR
    isplitl [Hg]; · iexact Hg
    isplitl [Hcx] <;> iassumption
  iintro ⟨Hld, Hxs, HgL, Hcx, HO⟩
  iapply ((step_b m K (c := c) (k := k) (a := k + 1) (d := k) (by omega) (by omega) (by omega)).go) $$ [HB HO]
  · isplitr; · iexact Hc
    isplitl [HB] <;> iassumption
  unfold postB
  iintro ⟨⟨Hst1, Hyr, HRY, HremB⟩, HO⟩
  ihave HRY' := (rights_use (rightY (yn c)) (rightY c) hk) $$ HRY
  icases HRY' with ⟨HR, Hg, HkY⟩
  iapply ((block_c m K (c := c) (k := k) (b := k) hk (by omega)).go) $$ [HC Hst Hys Hld Hxr HR Hg Hcy HO]
  · isplitr; · iexact Hc
    isplitl [HC]; · iexact HC
    isplitl [Hst]; · iexact Hst
    isplitl [Hys]; · iexact Hys
    isplitl [Hld]; · iexact Hld
    isplitl [Hxr]; · iexact Hxr
    isplitl [HR]; · iexact HR
    isplitl [Hg]; · iexact Hg
    isplitl [Hcy] <;> iassumption
  iintro ⟨Hvo, HgO, Hys, Hld, HxR, Hxr, Hr, Hg, Hcy, HO⟩
  iapply Hq
  isplitl [HremA]; · iexact HremA
  isplitl [HremC]; · iexact HremC
  isplitl [Hld Hld1]
  · isplitl [Hld1] <;> iassumption
  isplitl [Hxs Hxs1]
  · isplitl [Hxs1] <;> iassumption
  isplitl [Hxr Hxr1]
  · isplitl [Hxr1] <;> iassumption
  isplitl [Hr Hg HkX]
  · iapply (rights_next (rightX (xn c)) (rightX c) hk)
    isplitl [Hr]; · iexact Hr
    isplitl [Hg] <;> iassumption
  isplitl [Hcx]; · iexact Hcx
  isplitl [Hys Hys1]
  · isplitl [Hys1] <;> iassumption
  isplitl [Hst1]; · iexact Hst1
  isplitl [Hvo Hyr HkY HremB]
  · rw [preB_succ]
    isplitl [Hvo]; · iexact Hvo
    isplitl [Hyr]; · iexact Hyr
    isplitl [HkY] <;> iassumption
  isplitl [Hcy]; · iexact Hcy
  isplitl [HgL HdL]
  · iapply (done_late (xPts m fullShare.left c) k); isplitl [HgL] <;> iassumption
  isplitl [HxR HdR]
  · isplitl [HxR] <;> iassumption
  isplitl [HgO HdO]
  · iapply (done_late (oPts m c) k); isplitl [HgO] <;> iassumption
  iexact HO

/-! ## The end -/

/-- What one slot's cells and staging buffers are at the end. -/
def slotEnd (c : Dev nD) (k : ℕ) : sProp 𝕄 :=
  iprop(ldFree c k ∗ idle .xs c k ∗ (idle .ys c k ∗ anyAt c (psS (sl k))) ∗ (idle .st c k ∗ anyAt c (voS (sl k))) ∗ (at' .xr c k ∗ rightX c k) ∗ (at' .yr c k ∗ rightY c k))

/-- What the body leaves. -/
def End (c : Dev nD) : sProp 𝕄 :=
  iprop((slotEnd c 8 ∗ slotEnd c 9) ∗ crAt c cxSem 6 ∗ crAt c cySem 6
    ∗ done (xPts m fullShare.left c) 8 ∗ done (xPts m fullShare.right c) 8 ∗ done (oPts m c) 8 ∗ ow c 8 8 8 8)

/-- The last waits. -/
def finish (c : Dev nD) : PP F PUnit := do
  doIf (8 ≠ 0) (blockB c (8 - 1))
  drain 6
  drain 7

theorem finish_step {c : Dev nD} : Step m K c (St m c 8) (finish c) (End m c) := by
  intro k' Q
  unfold finish St
  simp only [bind_assoc]
  iintro ⟨#Hc, -, -, ⟨Hld, Hld1⟩, ⟨Hxs, Hxs1⟩, ⟨Hxr, Hxr1⟩, HRX, Hcx, ⟨Hys, Hys1⟩, Hst, HB, Hcy, HdL, HdR, HdO, HO⟩ Hq
  iapply ((step_b m K (c := c) (k := 8) (a := 8) (d := 8) (by omega) (by omega) (by omega)).go) $$ [HB HO]
  · isplitr; · iexact Hc
    isplitl [HB] <;> iassumption
  unfold postB
  iintro ⟨⟨Hst1, ⟨Hyr, Hyr1⟩, HRY, -⟩, HO⟩
  iapply ((drain_step m K (c := c) (k := 6) (a := 8) (b := 8) (d := 8) (e := 8) (by omega)).go) $$ [Hxs Hys Hst HO]
  · isplitr; · iexact Hc
    isplitl [Hxs]; · iexact Hxs
    isplitl [Hys]; · iexact Hys
    isplitl [Hst] <;> iassumption
  iintro ⟨⟨Hxs, HL6⟩, Hys, ⟨Hst, HO6, Hvo⟩, HO⟩
  iapply ((drain_step m K (c := c) (k := 7) (a := 8) (b := 8) (d := 8) (e := 8) (by omega)).go) $$ [Hxs1 Hys1 Hst1 HO]
  · isplitr; · iexact Hc
    isplitl [Hxs1]; · iexact Hxs1
    isplitl [Hys1]; · iexact Hys1
    isplitl [Hst1] <;> iassumption
  iintro ⟨⟨Hxs1, HL7⟩, Hys1, ⟨Hst1, HO7, Hvo1⟩, HO⟩
  ihave HRX' := (Entails.of_eq (show rightsX c 8 = iprop(rightX c 8 ∗ rightX c 9) from rfl)) $$ HRX
  ihave HRY' := (Entails.of_eq (show rightsY c 8 = iprop(rightY c 8 ∗ rightY c 9) from rfl)) $$ HRY
  icases HRX' with ⟨HX8, HX9⟩
  icases HRY' with ⟨HY8, HY9⟩
  iapply Hq
  unfold End slotEnd
  rw [done_step (xPts m fullShare.left c) 7, done_step (xPts m fullShare.left c) 6, done_step (oPts m c) 7, done_step (oPts m c) 6]
  isplitl [Hld Hld1 Hxs Hxs1 Hys Hys1 Hst Hvo Hst1 Hvo1 Hxr Hxr1 HX8 HX9 Hyr Hyr1 HY8 HY9]
  · isplitl [Hld Hxs Hys Hst Hvo Hxr HX8 Hyr HY8]
    · isplitl [Hld]; · iexact Hld
      isplitl [Hxs]; · iexact Hxs
      isplitl [Hys]; · iexact Hys
      isplitl [Hst Hvo]
      · isplitl [Hst]; · iexact Hst
        iexact Hvo
      isplitl [Hxr HX8]
      · isplitl [Hxr] <;> iassumption
      isplitl [Hyr] <;> iassumption
    · isplitl [Hld1]; · iexact Hld1
      isplitl [Hxs1]; · iexact Hxs1
      isplitl [Hys1]; · iexact Hys1
      isplitl [Hst1 Hvo1]
      · isplitl [Hst1]; · iexact Hst1
        iexact Hvo1
      isplitl [Hxr1 HX9]
      · isplitl [Hxr1] <;> iassumption
      isplitl [Hyr1] <;> iassumption
  isplitl [Hcx]; · iexact Hcx
  isplitl [Hcy]; · iexact Hcy
  isplitl [HL6 HL7 HdL]
  · isplitl [HL7]; · iexact HL7
    isplitl [HL6] <;> iassumption
  isplitl [HdR]; · iexact HdR
  isplitl [HO6 HO7 HdO]
  · isplitl [HO7]; · iexact HO7
    isplitl [HO6] <;> iassumption
  iexact HO

/-! ## The whole body -/

/-- The first `n` iterations, then `p`. -/
def iters (c : Dev nD) (p : PP F PUnit) : ℕ → ℕ → PP F PUnit
  | _, 0 => p
  | k, n + 1 => iter c k >>= fun _ => iters c p (k + 1) n

theorem iters_step {c : Dev nD} {p : PP F PUnit} {P : sProp 𝕄} (hp : Step m K c (St m c 8) p P) :
    ∀ (n k : ℕ), k + n = 8 → Step m K c (St m c k) (iters c p k n) P
  | 0, k, h => by obtain rfl : k = 8 := h; exact hp
  | n + 1, k, h => (iter_step m K (by omega)).seq (iters_step hp n (k + 1) (by omega))

theorem bodyOf_eq (c : Dev nD) : (bodyOf c : PP F PUnit) = (start c >>= fun _ => iters c (finish c) 0 8) := by
  unfold bodyOf
  simp only [iters, iter, finish, bind_assoc]
  rfl

/-- What a device starts from, besides its positions of the barrier and what it owes. -/
def Begin (c : Dev nD) : sProp 𝕄 :=
  iprop(rem (inA m c) 0 ∗ rem (inC c) 0 ∗ (ldFree c 0 ∗ ldFree c 1) ∗ (idle .xs c 0 ∗ idle .xs c 1) ∗ (at' .xr c 0 ∗ at' .xr c 1)
    ∗ crAt c cxSem 0 ∗ ((idle .ys c 0 ∗ anyAt c (psS 0)) ∗ (idle .ys c 1 ∗ anyAt c (psS 1)))
    ∗ ((idle .st c 0 ∗ anyAt c (voS 0)) ∗ (idle .st c 1 ∗ anyAt c (voS 1))) ∗ (at' .yr c 0 ∗ at' .yr c 1) ∗ rem (inB c) 0 ∗ crAt c cySem 0)

/-- What the barrier uses. -/
def Bar (c : Dev nD) : sProp 𝕄 :=
  iprop(dutyTok ER (bar (xn c)) 0 0 ∗ dutyTok ER (bar (yn c)) 0 1
        ∗ (rightX c 0 ∗ rightX c 1) ∗ (rightY c 0 ∗ rightY c 1) ∗ atPos ER (bar c) 0 ∅ 0 ∗ cred (tallyAt (bar c) 0 2))

theorem St_zero (c : Dev nD) : St m c 0
    = iprop(rem (inA m c) 0 ∗ rem (inC c) 0 ∗ (ldFree c 0 ∗ ldFree c 1) ∗ (idle .xs c 0 ∗ idle .xs c 1) ∗ (at' .xr c 0 ∗ at' .xr c 1)
      ∗ (rightX (xn c) 0 ∗ rightX (xn c) 1) ∗ crAt c cxSem 0 ∗ ((idle .ys c 0 ∗ anyAt c (psS 0)) ∗ (idle .ys c 1 ∗ anyAt c (psS 1)))
      ∗ (idle .st c 0 ∗ anyAt c (voS 0)) ∗ ((idle .st c 1 ∗ anyAt c (voS 1)) ∗ (at' .yr c 0 ∗ at' .yr c 1) ∗ (rightY (yn c) 0 ∗ rightY (yn c) 1) ∗ rem (inB c) 0)
      ∗ crAt c cySem 0 ∗ ow c 0 0 0 0) := by
  have e (Φ : ℕ → sProp 𝕄) : done Φ 0 = iprop(emp) := by unfold done; exact bigSep_empty
  unfold St
  rw [show 0 - 2 = 0 from rfl, e, e, e]
  have e' (P : sProp 𝕄) : iprop(emp ∗ P) = P := equiv_iff.mp BI.emp_sep
  rw [e', e', e']
  rfl

theorem body_step {c : Dev nD} {W : Waits sig ℕ} :
    Step m K c iprop(owes (c : Thread nD τ) (Owed₀ c) W ∗ Bar c ∗ Begin m c) (bodyOf c) iprop(End m c ∗ atPos ER (bar c) 1 ∅ 0) := by
  rw [bodyOf_eq]
  intro k' Q
  simp only [bind_assoc]
  unfold Bar Begin
  iintro ⟨#Hc, HO, HBar, HremA, HremC, Hld, Hxs, Hxr, Hcx, Hys, ⟨Hst, Hst1⟩, Hyr, HremB, Hcy⟩ Hq
  iapply ((barrier m K (c := c) (W := W)).go) $$ [HO HBar]
  · isplitr; · iexact Hc
    isplitl [HO] <;> iassumption
  iintro ⟨HO, Hb, HRX, HRY⟩
  iapply ((iters_step m K (c := c) (finish_step m K) 8 0 rfl).go) $$ [HO HRX HRY HremA HremC Hld Hxs Hxr Hcx Hys Hst Hst1 Hyr HremB Hcy]
  · isplitr; · iexact Hc
    iapply (Entails.of_eq (St_zero m c).symm)
    isplitl [HremA]; · iexact HremA
    isplitl [HremC]; · iexact HremC
    isplitl [Hld]; · iexact Hld
    isplitl [Hxs]; · iexact Hxs
    isplitl [Hxr]; · iexact Hxr
    isplitl [HRX]; · iexact HRX
    isplitl [Hcx]; · iexact Hcx
    isplitl [Hys]; · iexact Hys
    isplitl [Hst]; · iexact Hst
    isplitl [Hst1 Hyr HRY HremB]
    · isplitl [Hst1]; · iexact Hst1
      isplitl [Hyr]; · iexact Hyr
      isplitl [HRY] <;> iassumption
    isplitl [Hcy]; · iexact Hcy
    iexact HO
  iintro HE
  iapply Hq
  isplitl [HE] <;> iassumption

end Cert.TwoRound

end
-- ==== Proof.Buffers.lean ====
/-
  The buffers cut into slots and rows, and put together again.
-/
module

public import proofs.«01_k».proof.Proof.Iter

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Slots -/

theorem slot_disj (s s' : Fin 2) (h : s ≠ s') : Disjoint (slotR s).set (slotR s').set :=
  Ring.lead_disjoint (s := S2x512x2048) (0 : Fin 3) 1 (fun b : Fin 2 => ![b.val, 0, 0]) S1x512x2048.size inb_slot
    (fun b => (Nat.one_mul _).symm) rfl s s' h
theorem slot_cover : Finset.univ.biUnion (fun s : Fin 2 => (slotR s).set) = Finset.univ :=
  Ring.lead_cover (s := S2x512x2048) (0 : Fin 3) 1 (fun b : Fin 2 => ![b.val, 0, 0]) S1x512x2048.size inb_slot
    (fun b => (Nat.one_mul _).symm) (by decide) rfl (by decide) rfl
theorem oslot_disj (s s' : Fin 2) (h : s ≠ s') : Disjoint (oslotR s).set (oslotR s').set :=
  Ring.lead_disjoint (s := S2x512x4096) (0 : Fin 3) 1 (fun b : Fin 2 => ![b.val, 0, 0]) S1x512x4096.size inb_oslot
    (fun b => (Nat.one_mul _).symm) rfl s s' h
theorem oslot_cover : Finset.univ.biUnion (fun s : Fin 2 => (oslotR s).set) = Finset.univ :=
  Ring.lead_cover (s := S2x512x4096) (0 : Fin 3) 1 (fun b : Fin 2 => ![b.val, 0, 0]) S1x512x4096.size inb_oslot
    (fun b => (Nat.one_mul _).symm) (by decide) rfl (by decide) rfl
theorem xrow_disj (j j' : Fin 8) (h : j ≠ j') : Disjoint (xrowR j).set (xrowR j').set :=
  Ring.lead_disjoint (s := S4096x2048) (0 : Fin 2) 512 (fun b : Fin 8 => ![512 * b.val, 0]) S512x2048.size inb_xrow
    (fun b => rfl) rfl j j' h
theorem xrow_cover : Finset.univ.biUnion (fun j : Fin 8 => (xrowR j).set) = Finset.univ :=
  Ring.lead_cover (s := S4096x2048) (0 : Fin 2) 512 (fun b : Fin 8 => ![512 * b.val, 0]) S512x2048.size inb_xrow
    (fun b => rfl) (by decide) rfl (by decide) rfl
theorem orow_disj (j j' : Fin 8) (h : j ≠ j') : Disjoint (orowR j).set (orowR j').set :=
  Ring.lead_disjoint (s := S4096x4096) (0 : Fin 2) 512 (fun b : Fin 8 => ![512 * b.val, 0]) S512x4096.size inb_orow
    (fun b => rfl) rfl j j' h
theorem orow_cover : Finset.univ.biUnion (fun j : Fin 8 => (orowR j).set) = Finset.univ :=
  Ring.lead_cover (s := S4096x4096) (0 : Fin 2) 512 (fun b : Fin 8 => ![512 * b.val, 0]) S512x4096.size inb_orow
    (fun b => rfl) (by decide) rfl (by decide) rfl

/-- A buffer at any contents is its two slots at any contents. -/
theorem two_slots (ℓ : Loc nD τ sig) (J : Fin 2 → Finset (Idx ℓ))
    (hd : ∀ s s', s ≠ s' → Disjoint (J s) (J s')) (hc : Finset.univ.biUnion J = Finset.univ) :
    (iprop(∃ f : Buf (Elt F) ℓ, ℓ ↦{fullShare} f) : sProp 𝕄)
      ⊢ iprop((∃ f : Buf (Elt F) ℓ, ℓ ↦[J 0]{fullShare} f) ∗ (∃ f : Buf (Elt F) ℓ, ℓ ↦[J 1]{fullShare} f)) := by
  have h (f : Buf (Elt F) ℓ) : (ℓ ↦{fullShare} f : sProp 𝕄) = iprop((ℓ ↦[J 0]{fullShare} f) ∗ (ℓ ↦[J 1]{fullShare} f)) := by
    rw [Ring.pointsTo_blocks J hd hc f, bigSep_fin_two]; rfl
  iintro ⟨%f, H⟩
  ihave H' := (Entails.of_eq (h f)) $$ H
  icases H' with ⟨H0, H1⟩
  isplitl [H0]
  · iexists f; iexact H0
  · iexists f; iexact H1

/-- And the other way. -/
theorem two_slots_join (ℓ : Loc nD τ sig) (J : Fin 2 → Finset (Idx ℓ))
    (hd : ∀ s s', s ≠ s' → Disjoint (J s) (J s')) (hc : Finset.univ.biUnion J = Finset.univ) (f₀ : Buf (Elt F) ℓ) :
    iprop((∃ f : Buf (Elt F) ℓ, ℓ ↦[J 0]{fullShare} f) ∗ (∃ f : Buf (Elt F) ℓ, ℓ ↦[J 1]{fullShare} f))
      ⊢ (iprop(∃ f : Buf (Elt F) ℓ, ℓ ↦{fullShare} f) : sProp 𝕄) :=
  (Entails.of_eq (bigSep_fin_two (fun b => (iprop(∃ f, ℓ ↦[J b]{fullShare} f) : sProp 𝕄))).symm).trans (Ring.pointsTo_blocks_join_exists J hd hc f₀)

/-- A scratch buffer of a device, whole, at any contents. -/
abbrev whole (c : Dev nD) (b : Ref sig .tc) : sProp 𝕄 := iprop(∃ f : Buf (Elt F) ((c : Thread nD τ).loc b), ((c : Thread nD τ).loc b) ↦{fullShare} f)

theorem vx_set (s : Fin 2) : (vxS s).view.set = (slotR s).set := (View.set_reshape _ _).trans (View.set_slice_whole cc0_scratch0 (slotR s))
theorem xr_set (s : Fin 2) : (xrS s).view.set = (slotR s).set := (View.set_reshape _ _).trans (View.set_slice_whole cc0_scratch1 (slotR s))
theorem ps_set (s : Fin 2) : (psS s).view.set = (slotR s).set := (View.set_reshape _ _).trans (View.set_slice_whole cc0_scratch2 (slotR s))
theorem yr_set (s : Fin 2) : (yrS s).view.set = (slotR s).set := (View.set_reshape _ _).trans (View.set_slice_whole cc0_scratch3 (slotR s))
theorem vo_set (s : Fin 2) : (voS s).view.set = (oslotR s).set := (View.set_reshape _ _).trans (View.set_slice_whole cc0_scratch4 (oslotR s))

/-- A part of a scratch buffer of a device at any contents. -/
abbrev part (c : Dev nD) (b : Ref sig .tc) (S : Finset b.ty.Idx) : sProp 𝕄 :=
  iprop(∃ f : Buf (Elt F) ((c : Thread nD τ).loc b), ((c : Thread nD τ).loc b) ↦[S]{fullShare} f)

theorem vx_part (c : Dev nD) (s : Fin 2) : (anyAt (F := F) c (vxS s) : sProp 𝕄) = part c cc0_scratch0 (slotR s).set := by
  rw [anyAt_def, vx_set]
theorem xr_part (c : Dev nD) (s : Fin 2) : (anyAt (F := F) c (xrS s) : sProp 𝕄) = part c cc0_scratch1 (slotR s).set := by
  rw [anyAt_def, xr_set]
theorem ps_part (c : Dev nD) (s : Fin 2) : (anyAt (F := F) c (psS s) : sProp 𝕄) = part c cc0_scratch2 (slotR s).set := by
  rw [anyAt_def, ps_set]
theorem yr_part (c : Dev nD) (s : Fin 2) : (anyAt (F := F) c (yrS s) : sProp 𝕄) = part c cc0_scratch3 (slotR s).set := by
  rw [anyAt_def, yr_set]
theorem vo_part (c : Dev nD) (s : Fin 2) : (anyAt (F := F) c (voS s) : sProp 𝕄) = part c cc0_scratch4 (oslotR s).set := by
  rw [anyAt_def, vo_set]

theorem vx_split (c : Dev nD) : whole (F := F) c cc0_scratch0 ⊢ iprop(anyAt c (vxS 0) ∗ anyAt c (vxS 1)) := by
  rw [vx_part, vx_part]; exact two_slots ((c : Thread nD τ).loc cc0_scratch0) (fun s => (slotR s).set) slot_disj slot_cover
theorem xr_split (c : Dev nD) : whole (F := F) c cc0_scratch1 ⊢ iprop(anyAt c (xrS 0) ∗ anyAt c (xrS 1)) := by
  rw [xr_part, xr_part]; exact two_slots ((c : Thread nD τ).loc cc0_scratch1) (fun s => (slotR s).set) slot_disj slot_cover
theorem ps_split (c : Dev nD) : whole (F := F) c cc0_scratch2 ⊢ iprop(anyAt c (psS 0) ∗ anyAt c (psS 1)) := by
  rw [ps_part, ps_part]; exact two_slots ((c : Thread nD τ).loc cc0_scratch2) (fun s => (slotR s).set) slot_disj slot_cover
theorem yr_split (c : Dev nD) : whole (F := F) c cc0_scratch3 ⊢ iprop(anyAt c (yrS 0) ∗ anyAt c (yrS 1)) := by
  rw [yr_part, yr_part]; exact two_slots ((c : Thread nD τ).loc cc0_scratch3) (fun s => (slotR s).set) slot_disj slot_cover
theorem vo_split (c : Dev nD) : whole (F := F) c cc0_scratch4 ⊢ iprop(anyAt c (voS 0) ∗ anyAt c (voS 1)) := by
  rw [vo_part, vo_part]; exact two_slots ((c : Thread nD τ).loc cc0_scratch4) (fun s => (oslotR s).set) oslot_disj oslot_cover

include m in
theorem vx_join (c : Dev nD) : iprop(anyAt c (vxS 0) ∗ anyAt c (vxS 1)) ⊢ whole (F := F) c cc0_scratch0 := by
  rw [vx_part, vx_part]; exact two_slots_join ((c : Thread nD τ).loc cc0_scratch0) (fun s => (slotR s).set) slot_disj slot_cover (m _)
include m in
theorem xr_join (c : Dev nD) : iprop(anyAt c (xrS 0) ∗ anyAt c (xrS 1)) ⊢ whole (F := F) c cc0_scratch1 := by
  rw [xr_part, xr_part]; exact two_slots_join ((c : Thread nD τ).loc cc0_scratch1) (fun s => (slotR s).set) slot_disj slot_cover (m _)
include m in
theorem ps_join (c : Dev nD) : iprop(anyAt c (psS 0) ∗ anyAt c (psS 1)) ⊢ whole (F := F) c cc0_scratch2 := by
  rw [ps_part, ps_part]; exact two_slots_join ((c : Thread nD τ).loc cc0_scratch2) (fun s => (slotR s).set) slot_disj slot_cover (m _)
include m in
theorem yr_join (c : Dev nD) : iprop(anyAt c (yrS 0) ∗ anyAt c (yrS 1)) ⊢ whole (F := F) c cc0_scratch3 := by
  rw [yr_part, yr_part]; exact two_slots_join ((c : Thread nD τ).loc cc0_scratch3) (fun s => (slotR s).set) slot_disj slot_cover (m _)
include m in
theorem vo_join (c : Dev nD) : iprop(anyAt c (voS 0) ∗ anyAt c (voS 1)) ⊢ whole (F := F) c cc0_scratch4 := by
  rw [vo_part, vo_part]; exact two_slots_join ((c : Thread nD τ).loc cc0_scratch4) (fun s => (oslotR s).set) oslot_disj oslot_cover (m _)

/-! ## Rows -/

/-- A product over the eight chunks, counted by number. -/
theorem eight (Φ : ℕ → sProp 𝕄) : (bigSep Finset.univ fun j : Fin 8 => Φ j.val) = bigSep (Finset.range 8) Φ := by
  have e : Finset.range 8 = (Finset.univ : Finset (Fin 8)).map Fin.valEmbedding := by decide
  rw [e, bigSep_map]; rfl

theorem rem_zero (Φ : ℕ → sProp 𝕄) : rem Φ 0 = bigSep (Finset.range 8) Φ := by
  unfold rem; rw [← Finset.range_eq_Ico]

theorem rw8_val (j : Fin 8) : rw8 j.val = j := Fin.ext (Nat.mod_eq_of_lt j.isLt)

theorem x_set (j : Fin 8) : (xRow j).view.set = (xrowR j).set := View.set_slice_whole main_arg0 (xrowR j)
theorem o_set (j : Fin 8) : (oRow j).view.set = (orowR j).set := View.set_slice_whole main_v1 (orowR j)

/-- A share of the operand is its rows. -/
theorem x_rows (c : Dev nD) (q : PosShare TreeShare) :
    (((c : Thread nD τ).loc main_arg0) ↦{q} X m c : sProp 𝕄) = bigSep (Finset.range 8) (xPts m q c) := by
  rw [Ring.pointsTo_blocks (fun j : Fin 8 => (xrowR j).set) xrow_disj xrow_cover (X m c), ← eight]
  refine bigSep_congr fun j _ => ?_
  unfold xPts
  rw [rw8_val, x_set]

/-- The finished result is its rows. -/
theorem o_rows (c : Dev nD) :
    (((c : Thread nD τ).loc main_v1) ↦{fullShare} outV m c : sProp 𝕄) = bigSep (Finset.range 8) (oPts m c) := by
  rw [Ring.pointsTo_blocks (fun j : Fin 8 => (orowR j).set) orow_disj orow_cover (outV m c), ← eight]
  refine bigSep_congr fun j _ => ?_
  unfold oPts
  rw [rw8_val, o_set]

/-- The result's buffer is its rows, at any contents. -/
theorem o_any (c : Dev nD) (f : Buf (Elt F) ((c : Thread nD τ).loc main_v1)) :
    (((c : Thread nD τ).loc main_v1) ↦{fullShare} f : sProp 𝕄) ⊢ bigSep (Finset.range 8) (fun k => anyAt c (oRow (rw8 k))) := by
  rw [Ring.pointsTo_blocks (fun j : Fin 8 => (orowR j).set) orow_disj orow_cover f, ← eight]
  refine bigSep_mono fun j _ => ?_
  rw [anyAt_def, rw8_val, o_set]
  show iprop(((c : Thread nD τ).loc main_v1) ↦[(orowR j).set]{fullShare} f)
    ⊢ iprop(∃ f, ((c : Thread nD τ).loc main_v1) ↦[(orowR j).set]{fullShare} f)
  iintro H
  iexists f; iexact H

/-- The operand whole is its rows at two shares. -/
theorem x_split (c : Dev nD) :
    (((c : Thread nD τ).loc main_arg0) ↦{fullShare} X m c : sProp 𝕄)
      ⊣⊢ iprop(bigSep (Finset.range 8) (xPts m fullShare.left c) ∗ bigSep (Finset.range 8) (xPts m fullShare.right c)) := by
  rw [← x_rows, ← x_rows]
  exact pointsTo_share (PosShare.mem_left_op_right fullShare)

end Cert.TwoRound

end
-- ==== Proof.Deal.lean ====
/-
  The cells and the rights to pay at launch, and how they are dealt to the devices that use them.
-/
module

public import proofs.«01_k».proof.Proof.Buffers

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Counting -/

/-- A product over the first `n` numbers, as a product over `Fin n`. -/
theorem fin_range (n : ℕ) (Φ : ℕ → sProp 𝕄) : (bigSep Finset.univ fun j : Fin n => Φ j.val) = bigSep (Finset.range n) Φ := by
  have e : Finset.range n = (Finset.univ : Finset (Fin n)).map Fin.valEmbedding := by
    ext k; simp only [Finset.mem_range, Finset.mem_map, Finset.mem_univ, true_and, Fin.valEmbedding_apply]
    exact ⟨fun h => ⟨⟨k, h⟩, rfl⟩, fun ⟨j, h⟩ => h ▸ j.isLt⟩
  rw [e, bigSep_map]; rfl

theorem six (Φ : Kd → sProp 𝕄) : bigSep Finset.univ Φ = iprop(Φ .ld ∗ Φ .st ∗ Φ .xs ∗ Φ .xr ∗ Φ .ys ∗ Φ .yr) :=
  bigSep_univ_eq_bigSepL [Kd.ld, Kd.st, Kd.xs, Kd.xr, Kd.ys, Kd.yr] (by decide) (by decide) Φ

/-- A core's fifteen semaphores. -/
theorem fifteen (Φ : SemLoc sig → sProp 𝕄) : bigSep Finset.univ Φ
    = iprop(Φ (.dma (sem .ld 0)) ∗ Φ (.dma (sem .ld 1)) ∗ Φ (.dma (sem .st 0)) ∗ Φ (.dma (sem .st 1))
      ∗ Φ (.dma (sem .xs 0)) ∗ Φ (.dma (sem .xs 1)) ∗ Φ (.dma (sem .xr 0)) ∗ Φ (.dma (sem .xr 1))
      ∗ Φ (.dma (sem .ys 0)) ∗ Φ (.dma (sem .ys 1)) ∗ Φ (.dma (sem .yr 0)) ∗ Φ (.dma (sem .yr 1))
      ∗ Φ (.reg cxSem) ∗ Φ (.reg cySem) ∗ Φ (.reg barSem)) :=
  bigSep_univ_eq_bigSepL [SemLoc.dma (sem Kd.ld 0), SemLoc.dma (sem Kd.ld 1), SemLoc.dma (sem Kd.st 0), SemLoc.dma (sem Kd.st 1), SemLoc.dma (sem Kd.xs 0), SemLoc.dma (sem Kd.xs 1),
    SemLoc.dma (sem Kd.xr 0), SemLoc.dma (sem Kd.xr 1), SemLoc.dma (sem Kd.ys 0), SemLoc.dma (sem Kd.ys 1), SemLoc.dma (sem Kd.yr 0), SemLoc.dma (sem Kd.yr 1),
    SemLoc.reg cxSem, SemLoc.reg cySem, SemLoc.reg barSem] (by decide) (by decide) Φ

/-! ## Cells and rights -/

theorem kcell_injective : Function.Injective kcell := by
  rintro ⟨c, s⟩ ⟨c', s'⟩ h
  have h1 : c = c' := congrArg (fun g : GSem nD τ sig => g.1.1) h
  have h2 : s = s' := congrArg Prod.snd h
  rw [h1, h2]

def allCells : Finset (GSem nD τ sig) := Finset.univ.map ⟨kcell, kcell_injective⟩

/-- The payments on one device's cells: one for each transfer of a chunk, six credits of each kind, two barrier signals. -/
abbrev Pays : Type := (Kd × Fin 8) ⊕ (Fin 6 ⊕ (Fin 6 ⊕ Fin 2))

def payOn (c : Dev nD) : Pays → GSem nD τ sig × ℕ × ℕ
  | .inl (κ, k) => (dc κ c k.val, k.val / 2, 0)
  | .inr (.inl j) => (cxc c, 0, j.val)
  | .inr (.inr (.inl j)) => (cyc c, 0, j.val)
  | .inr (.inr (.inr d)) => (bar c, 0, d.val)

/-- Which payment a semaphore, a round and a duty belong to. -/
def payAt (x : SemLoc sig × ℕ × ℕ) : Kd × ℕ × ℕ :=
  match x.1 with
  | .dma q => (kd q, 2 * x.2.1 + sd q, 0)
  | .reg s => (.ld, x.2.2, if s = barSem then 1 else if s = cxSem then 2 else 3)

def payNum : Pays → Kd × ℕ × ℕ
  | .inl (κ, k) => (κ, k.val, 0)
  | .inr (.inl j) => (.ld, j.val, 2)
  | .inr (.inr (.inl j)) => (.ld, j.val, 3)
  | .inr (.inr (.inr d)) => (.ld, d.val, 1)

theorem payAt_on (c : Dev nD) (p : Pays) : payAt ((payOn c p).1.2, (payOn c p).2.1, (payOn c p).2.2) = payNum p := by
  rcases p with ⟨κ, k⟩ | j | j | d
  · show (kd (sem κ (sl k.val)), 2 * (k.val / 2) + sd (sem κ (sl k.val)), 0) = (κ, k.val, 0)
    rw [kd_sem, sd_sem]; show (κ, 2 * (k.val / 2) + k.val % 2, 0) = _; rw [Nat.div_add_mod]
  · show (Kd.ld, j.val, if cxSem = barSem then 1 else if cxSem = cxSem then 2 else 3) = _
    rw [if_neg cx_ne_bar, if_pos rfl]; rfl
  · show (Kd.ld, j.val, if cySem = barSem then 1 else if cySem = cxSem then 2 else 3) = _
    rw [if_neg cy_ne_bar, if_neg cy_ne_cx]; rfl
  · show (Kd.ld, d.val, if barSem = barSem then 1 else if barSem = cxSem then 2 else 3) = _
    rw [if_pos rfl]; rfl

theorem payNum_injective : Function.Injective payNum := by
  rintro (⟨κ, k⟩ | j | j | d) (⟨κ', k'⟩ | j' | j' | d') h
  all_goals (simp only [payNum, Prod.mk.injEq, and_true, true_and] at h)
  all_goals (first
    | (exact absurd h.2.2 (by decide))
    | (exact absurd h.2 (by decide))
    | (obtain ⟨rfl, h⟩ := h; rw [Fin.ext h])
    | (rw [Fin.ext h]))

abbrev tokOf (cp : Dev nD × Pays) : GSem nD τ sig × ℕ × ℕ := payOn cp.1 cp.2

theorem payOn_dev (c : Dev nD) (p : Pays) : (payOn c p).1.1.1 = c := by
  rcases p with ⟨κ, k⟩ | j | j | d <;> rfl

theorem tokOf_injective : Function.Injective tokOf := by
  rintro ⟨c, p⟩ ⟨c', p'⟩ h
  have h1 : c = c' := by
    rw [← payOn_dev c p, ← payOn_dev c' p']; exact congrArg (fun x : GSem nD τ sig × ℕ × ℕ => x.1.1.1) h
  have h2 : p = p' := payNum_injective (by
    rw [← payAt_on c p, ← payAt_on c' p']
    exact congrArg (fun x : GSem nD τ sig × ℕ × ℕ => payAt (x.1.2, x.2.1, x.2.2)) h)
  rw [h1, h2]

def allToks : Finset (GSem nD τ sig × ℕ × ℕ) := Finset.univ.map ⟨tokOf, tokOf_injective⟩

def u₀ : UU := (initOf (Pipeline.cells cfgs cellOf_inj) (Pipeline.launchToks cfgs cellOf_inj), initOf allCells allToks)

/-! ## What a device is dealt -/

/-- The rights to pay for the eight chunks' transfers of one kind on device `c`. -/
def toks8 (κ : Kd) (c : Dev nD) : sProp 𝕄 := bigSep (Finset.range 8) (tok κ c)
/-- The rights to give the six credits. -/
def toksX (c : Dev nD) : sProp 𝕄 := bigSep (Finset.range 6) fun j => dutyTok ER (cxc c) 0 j
def toksY (c : Dev nD) : sProp 𝕄 := bigSep (Finset.range 6) fun j => dutyTok ER (cyc c) 0 j

/-- The rights to pay on device `c`'s own cells. -/
def toks (c : Dev nD) : sProp 𝕄 :=
  iprop(toks8 .ld c ∗ toks8 .st c ∗ toks8 .xs c ∗ toks8 .xr c ∗ toks8 .ys c ∗ toks8 .yr c ∗ toksX c ∗ toksY c
    ∗ dutyTok ER (bar c) 0 0 ∗ dutyTok ER (bar c) 0 1)
/-- The rights that device `c` uses: of its neighbours' cells those it pays on. -/
def payToks (c : Dev nD) : sProp 𝕄 :=
  iprop(toks8 .ld c ∗ toks8 .st c ∗ toks8 .xs c ∗ toks8 .xr (xn c) ∗ toks8 .ys c ∗ toks8 .yr (yn c) ∗ toksX (xn c) ∗ toksY (yn c)
    ∗ dutyTok ER (bar (xn c)) 0 0 ∗ dutyTok ER (bar (yn c)) 0 1)

theorem toks_eq (c : Dev nD) : (bigSep Finset.univ fun p : Pays => (dutyTok ER (payOn c p).1 (payOn c p).2.1 (payOn c p).2.2 : sProp 𝕄)) = toks c := by
  rw [bigSep_univ_sum, bigSep_univ_sum, bigSep_univ_sum, bigSep_univ_prod, six]
  have h8 (κ : Kd) : (bigSep Finset.univ fun k : Fin 8 => (dutyTok ER (payOn c (.inl (κ, k))).1 (payOn c (.inl (κ, k))).2.1 (payOn c (.inl (κ, k))).2.2 : sProp 𝕄)) = toks8 κ c :=
    fin_range 8 (tok κ c)
  have hX : (bigSep Finset.univ fun k : Fin 6 => (dutyTok ER (payOn c (.inr (.inl k))).1 (payOn c (.inr (.inl k))).2.1 (payOn c (.inr (.inl k))).2.2 : sProp 𝕄)) = toksX c :=
    fin_range 6 (fun j => dutyTok ER (cxc c) 0 j)
  have hY : (bigSep Finset.univ fun k : Fin 6 => (dutyTok ER (payOn c (.inr (.inr (.inl k)))).1 (payOn c (.inr (.inr (.inl k)))).2.1 (payOn c (.inr (.inr (.inl k)))).2.2 : sProp 𝕄)) = toksY c :=
    fin_range 6 (fun j => dutyTok ER (cyc c) 0 j)
  rw [h8, h8, h8, h8, h8, h8, hX, hY, bigSep_fin_two]
  refine Entails.antisymm ?_ ?_
  · show iprop((toks8 .ld c ∗ toks8 .st c ∗ toks8 .xs c ∗ toks8 .xr c ∗ toks8 .ys c ∗ toks8 .yr c) ∗ toksX c ∗ toksY c
      ∗ dutyTok ER (bar c) 0 0 ∗ dutyTok ER (bar c) 0 1) ⊢ toks c
    unfold toks
    iintro ⟨⟨H1, H2, H3, H4, H5, H6⟩, H⟩
    isplitl [H1]; · iexact H1
    isplitl [H2]; · iexact H2
    isplitl [H3]; · iexact H3
    isplitl [H4]; · iexact H4
    isplitl [H5]; · iexact H5
    isplitl [H6] <;> iassumption
  · show toks c ⊢ iprop((toks8 .ld c ∗ toks8 .st c ∗ toks8 .xs c ∗ toks8 .xr c ∗ toks8 .ys c ∗ toks8 .yr c) ∗ toksX c ∗ toksY c
      ∗ dutyTok ER (bar c) 0 0 ∗ dutyTok ER (bar c) 0 1)
    unfold toks
    iintro ⟨H1, H2, H3, H4, H5, H6, H⟩
    isplitl [H1 H2 H3 H4 H5 H6]
    · isplitl [H1]; · iexact H1
      isplitl [H2]; · iexact H2
      isplitl [H3]; · iexact H3
      isplitl [H4]; · iexact H4
      isplitl [H5] <;> iassumption
    iexact H

/-- What the launch gives device `c`: its cells at their first round, its positions, and its cells' rights. -/
def G (c : Dev nD) : sProp 𝕄 :=
  iprop((bigSep Finset.univ fun s : SemLoc sig => roundState ER (Rd m) (kcell (c, s)) 0)
    ∗ (bigSep Finset.univ fun s : SemLoc sig => atPos ER (kcell (c, s)) 0 ∅ 0)
    ∗ (bigSep Finset.univ fun s : SemLoc sig => reached ER (kcell (c, s)) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : SemLoc sig => Φ (kcell (c, s)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  have hG : bigSep Finset.univ (G m) = iprop((bigSep Finset.univ fun c : Dev nD => bigSep Finset.univ fun s : SemLoc sig => roundState ER (Rd m) (kcell (c, s)) 0)
      ∗ (bigSep Finset.univ fun c : Dev nD => bigSep Finset.univ fun s : SemLoc sig => atPos ER (kcell (c, s)) 0 ∅ 0)
      ∗ (bigSep Finset.univ fun c : Dev nD => bigSep Finset.univ fun s : SemLoc sig => reached ER (kcell (c, s)) 0) ∗ bigSep Finset.univ fun c : Dev nD => toks c) := by
    unfold G; rw [bigSep_sep', bigSep_sep', bigSep_sep']
  rw [hG]
  iintro HX
  imod (Rounds.fund ER (Rd m) allCells allToks) $$ HX with ⟨Hst, Hr, Hat, Htok⟩
  imodintro
  isplitl [Hst]; · iapply (Entails.of_eq (hX fun g => roundState ER (Rd m) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-! ## The cells opened -/

/-- The core's own semaphores: all that belong to the call. -/
def osem : {s : SemLoc sig // s.isScoped .tc = true} → SemLoc sig := Subtype.val

theorem ownSemFacts : Pipeline.OwnSemFacts cfg0.spec osem where
  isScoped k := k.2
  inj := Subtype.val_injective
  disj _ w := w.elim0

/-- A core's semaphores at zero, the call's own and the rest, are all its semaphores at zero. -/
theorem sems_eq (c : Dev nD) :
    iprop(Pipeline.ownSems0 (Ix := ℕ) (Name := ℕ) (U := UU) (Lvl := ℕ) (Val := Elt F) (τ := τ) osem c ∗ unscopedSems0 c)
      = (bigSep Finset.univ fun s : SemLoc sig => semVal (kcell (c, s)) 0 : sProp 𝕄) := by
  rw [bigSep_filter_split Finset.univ (fun s : SemLoc sig => s.isScoped .tc = true),
    ← bigSep_subtype (fun s : SemLoc sig => s.isScoped .tc = true) (fun s => (semVal (kcell (c, s)) 0 : sProp 𝕄))]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ (kcell (c, s))))
          ∗ (bigSep Finset.univ fun s : SemLoc sig => atPos ER (kcell (c, s)) 0 ∅ 0)
          ∗ (bigSep Finset.univ fun s : SemLoc sig => reached ER (kcell (c, s)) 0) ∗ toks c) := by
  unfold G
  iintro ⟨Hos, Hus, Hst, Hrest⟩
  ihave Hv := (Entails.of_eq (sems_eq (F := F) c)) $$ [Hos Hus]
  · isplitl [Hos] <;> iassumption
  imod (show iprop((bigSep Finset.univ fun s : SemLoc sig => semVal (kcell (c, s)) 0) ∗ bigSep Finset.univ fun s : SemLoc sig => roundState ER (Rd m) (kcell (c, s)) 0)
      ⊢ (|={Set.univ}=> bigSep Finset.univ fun s : SemLoc sig => iprop(∃ κ : ℕ, cellInv ER (Rd m) κ (kcell (c, s))) : sProp 𝕄) from by
        rw [← bigSep_sep']
        exact (bigSep_mono fun s _ => (Rounds.body_intro ER (Rd m) (kcell (c, s))).trans inv_alloc).trans (bigSep_fupd _ _)) $$ [Hv Hst] with Hinv
  · isplitl [Hv] <;> iassumption
  imodintro
  isplitl [Hinv]; · iexact Hinv
  iexact Hrest

/-! ## Dealt around -/

/-- What every device knows of the cells, and what device `c` starts with. -/
def recs (K : Cell → ℕ) : sProp 𝕄 :=
  iprop((bigSep Finset.univ fun p : Cell => cellInv ER (Rd m) (K p) (kcell p)) ∗ bigSep Finset.univ fun p : Cell => reached ER (kcell p) 0)

instance recs_persistent (K : Cell → ℕ) : BI.Persistent (recs m K) := by unfold recs; infer_instance

def mine (c : Dev nD) : sProp 𝕄 := iprop((bigSep Finset.univ fun s : SemLoc sig => atPos ER (kcell (c, s)) 0 ∅ 0) ∗ payToks c)

def G' (c : Dev nD) : sProp 𝕄 := iprop(∃ K, recs m K ∗ mine c)

def xnE : Dev nD ≃ Dev nD := ⟨xn, xn, xn_xn, xn_xn⟩
def ynE : Dev nD ≃ Dev nD := ⟨yn, yn, yn_yn, yn_yn⟩

theorem toks_around : (bigSep Finset.univ fun c : Dev nD => (toks c : sProp 𝕄)) = bigSep Finset.univ fun c : Dev nD => payToks c := by
  have hx (Φ : Dev nD → sProp 𝕄) : bigSep Finset.univ Φ = bigSep Finset.univ fun c => Φ (xn c) := bigSep_univ_equiv xnE Φ
  have hy (Φ : Dev nD → sProp 𝕄) : bigSep Finset.univ Φ = bigSep Finset.univ fun c => Φ (yn c) := bigSep_univ_equiv ynE Φ
  unfold toks payToks
  simp only [bigSep_sep']
  rw [hx (toks8 .xr), hy (toks8 .yr), hx toksX, hy toksY, hx (fun c => dutyTok ER (bar c) 0 0), hy (fun c => dutyTok ER (bar c) 0 1)]

theorem each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

theorem regroup :
    (bigSep Finset.univ fun c : Dev nD => iprop((bigSep Finset.univ fun s : SemLoc sig => iprop(∃ κ : ℕ, cellInv ER (Rd m) κ (kcell (c, s))))
          ∗ (bigSep Finset.univ fun s : SemLoc sig => atPos ER (kcell (c, s)) 0 ∅ 0)
          ∗ (bigSep Finset.univ fun s : SemLoc sig => reached ER (kcell (c, s)) 0) ∗ toks c) : sProp 𝕄)
      ⊢ bigSep Finset.univ (G' m) := by
  rw [bigSep_sep', bigSep_sep', bigSep_sep', ← bigSep_univ_prod (fun p : Cell => (iprop(∃ κ : ℕ, cellInv ER (Rd m) κ (kcell p)) : sProp 𝕄)),
    ← bigSep_univ_prod (fun p : Cell => (reached ER (kcell p) 0 : sProp 𝕄)), toks_around]
  iintro ⟨HI, Hat, #HR, Htok⟩
  ihave HK := (BI.bigSep_exists_pi Finset.univ (fun (p : Cell) (κ : ℕ) => (cellInv ER (Rd m) κ (kcell p) : sProp 𝕄))) $$ HI
  icases HK with ⟨%K, #HI⟩
  iapply (each (R := recs m K) (Φ := mine) (Ψ := G' m) fun c => by
    unfold G'
    iintro H
    iexists K; iexact H)
  isplitr
  · unfold recs
    isplitl; · iexact HI
    iexact HR
  · unfold mine
    iapply (Entails.of_eq (bigSep_sep' Finset.univ (fun c : Dev nD => bigSep Finset.univ fun s : SemLoc sig => (atPos ER (kcell (c, s)) 0 ∅ 0 : sProp 𝕄)) payToks).symm)
    isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits -/

/-- What device `c` may wait for: what its neighbours owe it. -/
def creds (c : Dev nD) : sProp 𝕄 :=
  iprop((bigSep (Finset.range 8) fun k => cred (tallyAt (dc .xr c k) k (amt .xr))) ∗ (bigSep (Finset.range 8) fun k => cred (tallyAt (dc .yr c k) k (amt .yr)))
    ∗ (bigSep (Finset.range 6) fun k => cred (tallyAt (cxc c) k 1)) ∗ (bigSep (Finset.range 6) fun k => cred (tallyAt (cyc c) k 1))
    ∗ cred (tallyAt (bar c) 0 2))

theorem launch_creds (c : Dev nD) : (Pipeline.launchCred Owed₀ c : sProp 𝕄) ⊢ creds c := by
  have hX (s : SemLoc sig) (i n : ℕ) : (Pipeline.launchCred (fun d => tallyAt ((xn d : Thread nD τ), s) i n) c : sProp 𝕄) ⊢ cred (tallyAt ((c : Thread nD τ), s) i n) :=
    Pipeline.launchCred_tallyAt s xn xn xn_xn xn_xn i n c
  have hY (s : SemLoc sig) (i n : ℕ) : (Pipeline.launchCred (fun d => tallyAt ((yn d : Thread nD τ), s) i n) c : sProp 𝕄) ⊢ cred (tallyAt ((c : Thread nD τ), s) i n) :=
    Pipeline.launchCred_tallyAt s yn yn yn_yn yn_yn i n c
  have hx8 : (bigSep (Finset.range 8) fun k => Pipeline.launchCred (fun d => tallyAt (dc .xr (xn d) k) k (amt .xr)) c)
      ⊢ (bigSep (Finset.range 8) fun k => cred (tallyAt (dc .xr c k) k (amt .xr)) : sProp 𝕄) := bigSep_mono fun k _ => hX _ _ _
  have hy8 : (bigSep (Finset.range 8) fun k => Pipeline.launchCred (fun d => tallyAt (dc .yr (yn d) k) k (amt .yr)) c)
      ⊢ (bigSep (Finset.range 8) fun k => cred (tallyAt (dc .yr c k) k (amt .yr)) : sProp 𝕄) := bigSep_mono fun k _ => hY _ _ _
  have hx6 : (bigSep (Finset.range 6) fun k => Pipeline.launchCred (fun d => tallyAt (cxc (xn d)) k 1) c)
      ⊢ (bigSep (Finset.range 6) fun k => cred (tallyAt (cxc c) k 1) : sProp 𝕄) := bigSep_mono fun k _ => hX _ _ _
  have hy6 : (bigSep (Finset.range 6) fun k => Pipeline.launchCred (fun d => tallyAt (cyc (yn d)) k 1) c)
      ⊢ (bigSep (Finset.range 6) fun k => cred (tallyAt (cyc c) k 1) : sProp 𝕄) := bigSep_mono fun k _ => hY _ _ _
  rw [show Owed₀ = fun d => ((((∑ k ∈ Finset.range 8, tallyAt (dc .xr (xn d) k) k (amt .xr)) + (∑ k ∈ Finset.range 8, tallyAt (dc .yr (yn d) k) k (amt .yr)))
        + (∑ k ∈ Finset.range 6, tallyAt (cxc (xn d)) k 1)) + (∑ k ∈ Finset.range 6, tallyAt (cyc (yn d)) k 1)) + tallyAt (bar (yn d)) 0 1 + tallyAt (bar (xn d)) 0 1
      from funext fun d => by unfold Owed₀ Owed; simp only [← Finset.range_eq_Ico]]
  rw [Pipeline.launchCred_add, Pipeline.launchCred_add, Pipeline.launchCred_add, Pipeline.launchCred_add, Pipeline.launchCred_add,
    Pipeline.launchCred_sum, Pipeline.launchCred_sum, Pipeline.launchCred_sum, Pipeline.launchCred_sum]
  unfold creds
  iintro ⟨⟨⟨⟨⟨H1, H2⟩, H3⟩, H4⟩, H5⟩, H6⟩
  isplitl [H1]; · iapply hx8; iexact H1
  isplitl [H2]; · iapply hy8; iexact H2
  isplitl [H3]; · iapply hx6; iexact H3
  isplitl [H4]; · iapply hy6; iexact H4
  ihave H5' := (hY (.reg barSem) 0 1) $$ H5
  ihave H6' := (hX (.reg barSem) 0 1) $$ H6
  iapply (Entails.of_eq (congrArg cred (show tallyAt (bar c) 0 1 + tallyAt (bar c) 0 1 = (tallyAt (bar c) 0 2 : CellTallies nD τ sig ℕ) from by rw [show (2 : ℕ) = 1 + 1 from rfl, tallyAt_add])))
  iapply (cred_add _ _).2
  isplitl [H5'] <;> iassumption

end Cert.TwoRound

end
-- ==== Proof.Ends.lean ====
/-
  The start and the end of a device: what it is given at launch, and what it is left with.
-/
module

public import proofs.«01_k».proof.Proof.Deal

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The start -/

theorem range_step (Φ : ℕ → sProp 𝕄) (n : ℕ) : bigSep (Finset.range (n + 1)) Φ = iprop(Φ n ∗ bigSep (Finset.range n) Φ) := done_step Φ n

/-- Credits counted from chunk 2 on. -/
theorem shift_two (Φ : ℕ → sProp 𝕄) : ∀ n, bigSep (Finset.range n) Φ ⊢ bigSep (Finset.range (n + 2)) fun k => giveIf (2 ≤ k) (Φ (k - 2))
  | 0 => by
    rw [range_step, range_step, giveIf_false (by decide), giveIf_false (by decide)]
    show bigSep (Finset.range 0) Φ ⊢ iprop(emp ∗ emp ∗ bigSep (Finset.range 0) _)
    rw [Finset.range_zero, bigSep_empty, bigSep_empty]
    iintro -
    isplitr; · iempintro
    isplitr <;> iempintro
  | n + 1 => by
    rw [range_step, show n + 1 + 2 = n + 2 + 1 from rfl, range_step _ (n + 2), giveIf_true (by omega), show n + 2 - 2 = n from rfl]
    exact sep_mono_right (shift_two Φ n)

/-- Credits for the first six chunks only. -/
theorem first_six (Φ : ℕ → sProp 𝕄) : bigSep (Finset.range 6) Φ ⊢ bigSep (Finset.range 8) fun k => giveIf (k < 6) (Φ k) := by
  rw [range_step _ 7, range_step _ 6, giveIf_false (by decide), giveIf_false (by decide)]
  have h : bigSep (Finset.range 6) (fun k => giveIf (k < 6) (Φ k)) = bigSep (Finset.range 6) Φ :=
    bigSep_congr fun k hk => giveIf_true (Finset.mem_range.mp hk) _
  rw [h]
  iintro H
  isplitr; · iempintro
  isplitr; · iempintro
  iexact H

variable (K : Cell → ℕ)

/-- The positions of a core's cells at their first round. -/
theorem positions (c : Dev nD) : (bigSep Finset.univ fun s : SemLoc sig => (atPos ER (kcell (c, s)) 0 ∅ 0 : sProp 𝕄))
    = iprop(at' .ld c 0 ∗ at' .ld c 1 ∗ at' .st c 0 ∗ at' .st c 1 ∗ at' .xs c 0 ∗ at' .xs c 1 ∗ at' .xr c 0 ∗ at' .xr c 1
      ∗ at' .ys c 0 ∗ at' .ys c 1 ∗ at' .yr c 0 ∗ at' .yr c 1 ∗ atPos ER (cxc c) 0 ∅ 0 ∗ atPos ER (cyc c) 0 ∅ 0 ∗ atPos ER (bar c) 0 ∅ 0) :=
  fifteen _

theorem crAt_zero (c : Dev nD) (s : Sem sig) : (atPos ER ((c : Thread nD τ), .reg s) 0 ∅ 0 : sProp 𝕄) ⊢ crAt c s 0 := by
  unfold crAt; rw [if_pos (by decide)]
  iintro H; iexists ∅; iexact H

theorem idle_first (κ : Kd) (c : Dev nD) (k : ℕ) (hk : k < 2) : iprop(ctx m K ∗ at' κ c k) ⊢ idle κ c k := by
  rw [idle_def, show k / 2 = 0 from by omega]
  iintro ⟨#Hc, H⟩
  isplitl; · iexact H
  iapply (reached_at m K c _); iexact Hc

theorem rightX_first (c : Dev nD) (k : ℕ) (hk : k < 2) : iprop(ctx m K ∗ anyAt c (xrS (sl k))) ⊢ rightX c k := by
  unfold rightX; rw [show k / 2 = 0 from by omega]
  iintro ⟨#Hc, H⟩
  isplitl; · iexact H
  iapply (reached_at m K c _); iexact Hc
theorem rightY_first (c : Dev nD) (k : ℕ) (hk : k < 2) : iprop(ctx m K ∗ anyAt c (yrS (sl k))) ⊢ rightY c k := by
  unfold rightY; rw [show k / 2 = 0 from by omega]
  iintro ⟨#Hc, H⟩
  isplitl; · iexact H
  iapply (reached_at m K c _); iexact Hc

/-- What the blocks use up over the eight chunks, kind by kind. -/
theorem inA_all (c : Dev nD) : rem (inA m c) 0
    = iprop(toks8 .xs c ∗ toks8 .xr (xn c) ∗ toks8 .ld c ∗ bigSep (Finset.range 8) (xPts m fullShare.left c) ∗ bigSep (Finset.range 8) (xPts m fullShare.right c)
      ∗ bigSep (Finset.range 8) fun k => giveIf (2 ≤ k) (cred (tallyAt (cxc c) (k - 2) 1))) := by
  rw [rem_zero]; unfold inA
  rw [bigSep_sep', bigSep_sep', bigSep_sep', bigSep_sep', bigSep_sep']; rfl
theorem inB_all (c : Dev nD) : (rem (inB c) 0 : sProp 𝕄)
    = iprop(toks8 .st c ∗ (bigSep (Finset.range 8) fun k => anyAt c (oRow (rw8 k))) ∗ (bigSep (Finset.range 8) fun k => cred (tallyAt (dc .yr c k) k (amt .yr)))
      ∗ bigSep (Finset.range 8) fun k => giveIf (k < 6) (dutyTok ER (cyc (yn c)) 0 k)) := by
  rw [rem_zero]; unfold inB
  rw [bigSep_sep', bigSep_sep', bigSep_sep']; rfl
theorem inC_all (c : Dev nD) : (rem (inC c) 0 : sProp 𝕄)
    = iprop(toks8 .ys c ∗ toks8 .yr (yn c) ∗ (bigSep (Finset.range 8) fun k => cred (tallyAt (dc .xr c k) k (amt .xr)))
      ∗ (bigSep (Finset.range 8) fun k => giveIf (k < 6) (dutyTok ER (cxc (xn c)) 0 k))
      ∗ bigSep (Finset.range 8) fun k => giveIf (2 ≤ k) (cred (tallyAt (cyc c) (k - 2) 1))) := by
  rw [rem_zero]; unfold inC
  rw [bigSep_sep', bigSep_sep', bigSep_sep', bigSep_sep']; rfl

/-- The scratch buffers of a device, whole, at any contents. -/
def scratch (c : Dev nD) : sProp 𝕄 :=
  iprop(whole c cc0_scratch0 ∗ whole c cc0_scratch1 ∗ whole c cc0_scratch2 ∗ whole c cc0_scratch3 ∗ whole c cc0_scratch4)

/-- The operand's and the result's buffers. -/
def hbm (c : Dev nD) (f : Buf (Elt F) ((c : Thread nD τ).loc main_v1)) : sProp 𝕄 :=
  iprop((((c : Thread nD τ).loc main_arg0) ↦{fullShare} X m c) ∗ (((c : Thread nD τ).loc main_v1) ↦{fullShare} f))

/-- What a device is given is what its body starts from. -/
theorem begin_intro (c : Dev nD) (f : Buf (Elt F) ((c : Thread nD τ).loc main_v1)) :
    iprop(ctx m K ∗ mine c ∗ creds c ∗ hbm m c f ∗ scratch c) ⊢ iprop(Bar c ∗ Begin m c) := by
  unfold mine payToks creds hbm scratch Bar Begin ldFree
  rw [positions, inA_all, inB_all, inC_all]
  iintro ⟨#Hc, ⟨⟨Pld0, Pld1, Pst0, Pst1, Pxs0, Pxs1, Pxr0, Pxr1, Pys0, Pys1, Pyr0, Pyr1, Pcx, Pcy, Pb⟩,
    ⟨Tld, Tst, Txs, Txr, Tys, Tyr, Tcx, Tcy, Tb0, Tb1⟩⟩, ⟨Cxr, Cyr, Ccx, Ccy, Cb⟩, ⟨Hx, Ho⟩, ⟨B0, B1, B2, B3, B4⟩⟩
  ihave Hx' := (x_split m c).1 $$ Hx
  icases Hx' with ⟨HxL, HxR⟩
  ihave Ho' := (o_any c f) $$ Ho
  ihave B0' := (vx_split c) $$ B0
  icases B0' with ⟨V0, V1⟩
  ihave B1' := (xr_split c) $$ B1
  icases B1' with ⟨XR0, XR1⟩
  ihave B2' := (ps_split c) $$ B2
  icases B2' with ⟨P0, P1⟩
  ihave B3' := (yr_split c) $$ B3
  icases B3' with ⟨YR0, YR1⟩
  ihave B4' := (vo_split c) $$ B4
  icases B4' with ⟨O0, O1⟩
  isplitl [Tb0 Tb1 XR0 XR1 YR0 YR1 Pb Cb]
  · isplitl [Tb0]; · iexact Tb0
    isplitl [Tb1]; · iexact Tb1
    isplitl [XR0 XR1]
    · isplitl [XR0]
      · iapply (rightX_first m K c 0 (by decide)); isplitr; · iexact Hc
        iexact XR0
      · iapply (rightX_first m K c 1 (by decide)); isplitr; · iexact Hc
        iexact XR1
    isplitl [YR0 YR1]
    · isplitl [YR0]
      · iapply (rightY_first m K c 0 (by decide)); isplitr; · iexact Hc
        iexact YR0
      · iapply (rightY_first m K c 1 (by decide)); isplitr; · iexact Hc
        iexact YR1
    isplitl [Pb]; · iexact Pb
    iexact Cb
  isplitl [Txs Txr Tld HxL HxR Ccx]
  · isplitl [Txs]; · iexact Txs
    isplitl [Txr]; · iexact Txr
    isplitl [Tld]; · iexact Tld
    isplitl [HxL]; · iexact HxL
    isplitl [HxR]; · iexact HxR
    iapply (shift_two (fun k => cred (tallyAt (cxc c) k 1)) 6); iexact Ccx
  isplitl [Tys Tyr Cxr Tcx Ccy]
  · isplitl [Tys]; · iexact Tys
    isplitl [Tyr]; · iexact Tyr
    isplitl [Cxr]; · iexact Cxr
    isplitl [Tcx]
    · iapply (first_six (fun k => dutyTok ER (cxc (xn c)) 0 k))
      iapply (Entails.of_eq (show toksX (xn c) = bigSep (Finset.range 6) (fun k => dutyTok ER (cxc (xn c)) 0 k) from rfl)); iexact Tcx
    iapply (shift_two (fun k => cred (tallyAt (cyc c) k 1)) 6); iexact Ccy
  isplitl [Pld0 Pld1 V0 V1]
  · isplitl [Pld0 V0]
    · isplitl [Pld0]
      · iapply (idle_first m K .ld c 0 (by decide)); isplitr; · iexact Hc
        iexact Pld0
      iexact V0
    · isplitl [Pld1]
      · iapply (idle_first m K .ld c 1 (by decide)); isplitr; · iexact Hc
        iexact Pld1
      iexact V1
  isplitl [Pxs0 Pxs1]
  · isplitl [Pxs0]
    · iapply (idle_first m K .xs c 0 (by decide)); isplitr; · iexact Hc
      iexact Pxs0
    · iapply (idle_first m K .xs c 1 (by decide)); isplitr; · iexact Hc
      iexact Pxs1
  isplitl [Pxr0 Pxr1]
  · isplitl [Pxr0] <;> iassumption
  isplitl [Pcx]; · iapply (crAt_zero c cxSem); iexact Pcx
  isplitl [Pys0 Pys1 P0 P1]
  · isplitl [Pys0 P0]
    · isplitl [Pys0]
      · iapply (idle_first m K .ys c 0 (by decide)); isplitr; · iexact Hc
        iexact Pys0
      iexact P0
    · isplitl [Pys1]
      · iapply (idle_first m K .ys c 1 (by decide)); isplitr; · iexact Hc
        iexact Pys1
      iexact P1
  isplitl [Pst0 Pst1 O0 O1]
  · isplitl [Pst0 O0]
    · isplitl [Pst0]
      · iapply (idle_first m K .st c 0 (by decide)); isplitr; · iexact Hc
        iexact Pst0
      iexact O0
    · isplitl [Pst1]
      · iapply (idle_first m K .st c 1 (by decide)); isplitr; · iexact Hc
        iexact Pst1
      iexact O1
  isplitl [Pyr0 Pyr1]
  · isplitl [Pyr0] <;> iassumption
  isplitl [Tst Ho' Cyr Tcy]
  · isplitl [Tst]; · iexact Tst
    isplitl [Ho']; · iexact Ho'
    isplitl [Cyr]; · iexact Cyr
    iapply (first_six (fun k => dutyTok ER (cyc (yn c)) 0 k))
    iapply (Entails.of_eq (show toksY (yn c) = bigSep (Finset.range 6) (fun k => dutyTok ER (cyc (yn c)) 0 k) from rfl)); iexact Tcy
  iapply (crAt_zero c cySem); iexact Pcy

/-! ## The end -/

/-- The round in which a cell is at the end: nothing is due there any more. -/
def lastRound : SemLoc sig → ℕ
  | .dma _ => 4
  | .reg _ => 1

theorem duties_last (c : Dev nD) (s : SemLoc sig) (r : ℕ) (h : lastRound s ≤ r) : (Rd m).duties (kcell (c, s)) r = ∅ := by
  cases s with
  | dma q => exact duties_dma_later m c q r h
  | reg q => exact duties_reg_later m c q r h

theorem close_one (c : Dev nD) (s : SemLoc sig) :
    iprop(ctx m K ∗ atPos ER (kcell (c, s)) (lastRound s) ∅ 0) ⊢ (|={Set.univ}=> semVal (kcell (c, s)) 0 : sProp 𝕄) := by
  iintro ⟨#Hc, H⟩
  iapply (cell_close ER (Rd m) (κ := K (c, s)) (g := kcell (c, s)) (Set.mem_univ _) (fun h => h) (R := lastRound s) (duties_last m c s))
  isplitr
  · iapply (inv_at m K c s); iexact Hc
  iexact H

theorem close_all (c : Dev nD) :
    iprop(ctx m K ∗ bigSep Finset.univ fun s : SemLoc sig => atPos ER (kcell (c, s)) (lastRound s) ∅ 0)
      ⊢ (|={Set.univ}=> bigSep Finset.univ fun s : SemLoc sig => semVal (kcell (c, s)) 0 : sProp 𝕄) := by
  refine (sep_mono_left (BI.bigSep_of_persistent (Finset.univ : Finset (SemLoc sig)) (ctx m K))).trans ?_
  rw [← bigSep_sep']
  exact (bigSep_mono fun s _ => close_one m K c s).trans (bigSep_fupd _ _)

/-- The positions of a core's cells at the end. -/
theorem positions_last (c : Dev nD) : (bigSep Finset.univ fun s : SemLoc sig => (atPos ER (kcell (c, s)) (lastRound s) ∅ 0 : sProp 𝕄))
    = iprop(at' .ld c 8 ∗ at' .ld c 9 ∗ at' .st c 8 ∗ at' .st c 9 ∗ at' .xs c 8 ∗ at' .xs c 9 ∗ at' .xr c 8 ∗ at' .xr c 9
      ∗ at' .ys c 8 ∗ at' .ys c 9 ∗ at' .yr c 8 ∗ at' .yr c 9 ∗ atPos ER (cxc c) 1 ∅ 0 ∗ atPos ER (cyc c) 1 ∅ 0 ∗ atPos ER (bar c) 1 ∅ 0) :=
  fifteen _

/-- What a device ends with: every counter at zero, the operand as it was, the result computed. -/
def Φ₁ (c : Dev nD) : sProp 𝕄 :=
  iprop((bigSep Finset.univ fun s : SemLoc sig => semVal (kcell (c, s)) 0) ∗ hbm m c (outV m c) ∗ scratch c)

theorem owed_end (c : Dev nD) : Owed c 8 8 8 8 = 0 := by
  unfold Owed
  rw [Finset.Ico_eq_empty_of_le (le_refl 8), Finset.Ico_eq_empty_of_le (show 6 ≤ 8 by decide)]
  simp only [Finset.sum_empty, add_zero]

theorem end_elim (c : Dev nD) :
    iprop(ctx m K ∗ End m c ∗ atPos ER (bar c) 1 ∅ 0) ⊢ (|={Set.univ}=> iprop(Φ₁ m c ∗ ∃ W, owes (c : Thread nD τ) 0 W) : sProp 𝕄) := by
  unfold End slotEnd ldFree rightX rightY ow done
  rw [owed_end, idle_def, idle_def, idle_def, idle_def, idle_def, idle_def, idle_def, idle_def,
    show (crAt c cxSem 6 : sProp 𝕄) = atPos ER (cxc c) 1 ∅ 0 from if_neg (by decide),
    show (crAt c cySem 6 : sProp 𝕄) = atPos ER (cyc c) 1 ∅ 0 from if_neg (by decide)]
  iintro ⟨#Hc, ⟨⟨⟨⟨⟨Pld0, -⟩, V0⟩, ⟨Pxs0, -⟩, ⟨⟨Pys0, -⟩, P0⟩, ⟨⟨Pst0, -⟩, O0⟩, ⟨Pxr0, ⟨XR0, -⟩⟩, ⟨Pyr0, ⟨YR0, -⟩⟩⟩,
      ⟨⟨⟨Pld1, -⟩, V1⟩, ⟨Pxs1, -⟩, ⟨⟨Pys1, -⟩, P1⟩, ⟨⟨Pst1, -⟩, O1⟩, ⟨Pxr1, ⟨XR1, -⟩⟩, ⟨Pyr1, ⟨YR1, -⟩⟩⟩⟩,
    Pcx, Pcy, HxL, HxR, Ho, HO⟩, Pb⟩
  imod (close_all m K c) $$ [Pld0 Pxs0 Pys0 Pst0 Pxr0 Pyr0 Pld1 Pxs1 Pys1 Pst1 Pxr1 Pyr1 Pcx Pcy Pb] with HS
  · isplitr; · iexact Hc
    iapply (Entails.of_eq (positions_last c).symm)
    isplitl [Pld0]; · iexact Pld0
    isplitl [Pld1]; · iexact Pld1
    isplitl [Pst0]; · iexact Pst0
    isplitl [Pst1]; · iexact Pst1
    isplitl [Pxs0]; · iexact Pxs0
    isplitl [Pxs1]; · iexact Pxs1
    isplitl [Pxr0]; · iexact Pxr0
    isplitl [Pxr1]; · iexact Pxr1
    isplitl [Pys0]; · iexact Pys0
    isplitl [Pys1]; · iexact Pys1
    isplitl [Pyr0]; · iexact Pyr0
    isplitl [Pyr1]; · iexact Pyr1
    isplitl [Pcx]; · iexact Pcx
    isplitl [Pcy]; · iexact Pcy
    iexact Pb
  imodintro
  unfold Φ₁ hbm scratch
  isplitr [HO]
  · isplitl [HS]; · iexact HS
    isplitl [HxL HxR Ho]
    · isplitl [HxL HxR]
      · iapply (x_split m c).2
        isplitl [HxL] <;> iassumption
      · iapply (Entails.of_eq (o_rows m c).symm); iexact Ho
    isplitl [V0 V1]
    · iapply (vx_join m c); isplitl [V0]; · iexact V0
      iexact V1
    isplitl [XR0 XR1]
    · iapply (xr_join m c); isplitl [XR0]; · iexact XR0
      iexact XR1
    isplitl [P0 P1]
    · iapply (ps_join m c); isplitl [P0]; · iexact P0
      iexact P1
    isplitl [YR0 YR1]
    · iapply (yr_join m c); isplitl [YR0]; · iexact YR0
      iexact YR1
    iapply (vo_join m c); isplitl [O0]; · iexact O0
    iexact O1
  iexact HO

end Cert.TwoRound

end
-- ==== Proof.Run.lean ====
/-
  The launch: what every device starts with, what it ends with, and the run of the whole program.
-/
module

public import proofs.«01_k».proof.Proof.Ends
public import Idealize.ShloMosaic.Lib.Pipeline.CollectiveSegs

@[expose] public section

set_option maxRecDepth 16384

noncomputable section

namespace Cert.TwoRound

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

variable (ρ : Dev nD → PrngReg)

/-! ## The one grid point -/

/-- What device `c` is given at launch, the scratch buffers apart. -/
def given (c : Dev nD) : sProp 𝕄 :=
  iprop(G' m c ∗ levAts L lv ∗ creds c ∗ hbm m c (m ((c : Thread nD τ).loc main_v1)))

def Φ₀ (c : Dev nD) : sProp 𝕄 := iprop(given m c ∗ scratch c)

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Owed₀ c
    | ⟨_ + 1, _⟩ => 0

/-- What is given, with the names of the cells' invariants chosen. -/
theorem given_elim (c : Dev nD) :
    Φ₀ m c ⊢ iprop(∃ K, ctx m K ∗ Bar c ∗ Begin m c) := by
  unfold Φ₀ given G' recs
  iintro ⟨⟨⟨%K, ⟨#HI, #HR⟩, Hm⟩, #HL, Hcr, Hb⟩, Hs⟩
  have hc : iprop((bigSep Finset.univ fun p : Cell => cellInv ER (Rd m) (K p) (kcell p))
    ∗ (bigSep Finset.univ fun p : Cell => reached ER (kcell p) 0) ∗ levAts L lv) ⊢ ctx m K := Entails.of_eq rfl
  ihave #Hc := hc $$ []
  · isplitr; · iexact HI
    isplitr; · iexact HR
    iexact HL
  iexists K
  isplitr; · iexact Hc
  iapply (begin_intro m K c _)
  isplitr; · iexact Hc
  isplitl [Hm]; · iexact Hm
  isplitl [Hcr]; · iexact Hcr
  isplitl [Hb]; · iexact Hb
  iexact Hs

/-- The body on device `c`, from what it is given to what it ends with. -/
theorem body_run (c : Dev nD) (W : Waits sig ℕ) (Q : PUnit → sProp 𝕄) :
    iprop(Φ₀ m c ∗ owes (c : Thread nD τ) (Owed₀ c) W)
      ⊢ iprop((iprop(Φ₁ m c ∗ ∃ W, owes (c : Thread nD τ) 0 W) -∗ Q ⟨⟩) -∗ wpc c (Prog.op .deviceId bodyOf) Q) := by
  have hb (c : Dev nD) : (bodyOf c : PP F PUnit) = bodyOf c >>= pure := (bind_pure _).symm
  have hd : wpc c (Prog.op .deviceId bodyOf) Q = wpc c (bodyOf c) Q := by simp only [wp_deviceId]
  have hr : (|={Set.univ}=> Q ⟨⟩ : sProp 𝕄) ⊢ wpc c (pure ⟨⟩) Q := Entails.of_eq (wp_ret ..).symm
  rw [hd, hb]
  iintro ⟨H, HO⟩ Hk
  ihave H' := (given_elim m c) $$ H
  icases H' with ⟨%K, #Hc, HB⟩
  iapply ((body_step m K (c := c) (W := W)).go (k := pure)) $$ [HO HB]
  · isplitr; · iexact Hc
    isplitl [HO] <;> iassumption
  iintro ⟨HE, HP⟩
  iapply hr
  imod (end_elim m K c) $$ [HE HP] with HF
  · isplitr; · iexact Hc
    isplitl [HE] <;> iassumption
  imodintro
  iapply Hk; iexact HF

theorem defs_tc : (defs₀ (F := F)) .tc cfg0.body = fun a => bodyAt0 t0_0 := rfl

theorem prog_eq (t : Fin cfg0.N) : (defs₀ (F := F)) .tc cfg0.body (cfg0.bodyArgs t (cfg0.slots t)) = Prog.op .deviceId bodyOf :=
  ((congrFun defs_tc _).trans rfl).trans (body_eq t0_0)

theorem body_obligation (c : Dev nD) : BodyObligation (dats (F := F) m 0 c) (defs₀ (F := F)) 𝒱₀ 0 Set.univ := fun t => by
  obtain rfl : t = t0_0 := fin_N0 t
  rw [prog_eq]
  rw [show (dats m 0 c).Φ t0_0.castSucc = Φ₀ m c from rfl, show (dats m 0 c).Φ t0_0.succ = Φ₁ m c from rfl]
  unfold Dat.owesAt Pipeline.owesWithin
  rw [show (dats m 0 c).owed t0_0.castSucc = Owed₀ c from rfl, show (dats m 0 c).owed t0_0.succ = 0 from rfl]
  iintro ⟨H, ⟨%W, -, HO⟩, Hw⟩
  iapply (body_run m c W) $$ [H HO]
  · isplitl [H] <;> iassumption
  iintro ⟨HF, ⟨%W', HO⟩⟩
  isplitl [HF]; · iexact HF
  isplitl [HO]
  · iexists W'; isplitr; · ipureintro; exact fun _ _ => Or.inl trivial
    iexact HO
  iexact Hw

/-! ## The launch -/

theorem given_intro (c : Dev nD) :
    iprop(Pipeline.unscopedRestP Pipeline.Prefetch.none cfg0.spec c (fun b => m ((c : Thread nD τ).loc b)) ∗ levAts L lv
        ∗ Pipeline.launchCred Owed₀ c ∗ prngReg c (ρ c) ∗ G' m c)
      ⊢ |={Set.univ}=> iprop(given m c ∗ emp) := by
  rw [Pipeline.unscopedRestP_none, unscopedRest0_eq]
  unfold given hbm
  iintro ⟨Hb, HL, Hcr, -, HG⟩
  ihave Hc := (launch_creds (F := F) c) $$ Hcr
  imodintro
  isplitl
  · isplitl [HG]; · iexact HG
    isplitl [HL]; · iexact HL
    isplitl [Hc]; · iexact Hc
    iexact Hb
  · iempintro

theorem scratch_eq (c : Dev nD) : (Pipeline.scopedRest cfg0.spec c : sProp 𝕄) = scratch c := scopedRest0_eq c

theorem start_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hg, -, Hs⟩
  isplitl [Hg] <;> iassumption

/-- What a device holds at the end, its scoped buffers and semaphores apart. -/
def held (c : Dev nD) : sProp 𝕄 := iprop(unscopedSems0 c ∗ hbm m c (outV m c))

theorem held_intro (c : Dev nD) :
    (dats m 0 c).Φ (Fin.last cfg0.N) ⊢ iprop(held m c ∗ Pipeline.ownSems0 osem c ∗ Pipeline.scopedRest cfg0.spec c) := by
  rw [show (dats m 0 c).Φ (Fin.last cfg0.N) = Φ₁ m c from rfl, scratch_eq]
  unfold Φ₁ held
  rw [← sems_eq]
  iintro ⟨⟨Ho, Hu⟩, Hb, Hs⟩
  isplitl [Hu Hb]
  · isplitl [Hu] <;> iassumption
  isplitl [Ho] <;> iassumption

/-- What holds of device `c`'s memory at the end. -/
def atEnd (c : Dev nD) (s : MemSt nD τ sig (Elt F)) : Prop :=
  (s.mem ((c : Thread nD τ).loc main_arg0) = m ((c : Thread nD τ).loc main_arg0)
      ∧ s.mem ((c : Thread nD τ).loc main_v1) = outV m c)
    ∧ ∀ sm : SemLoc sig, sm.isScoped .tc = false → s.sem ((c.tc : Thread nD τ), sm) = 0

theorem held_read (c : Dev nD) (s' : Phys nD τ sig (Elt F)) :
    iprop(held m c ∗ emp ∗ SI s') ⊢ (|={Set.univ}=> iprop(⌜atEnd m c s'.mem⌝ ∗ SI s') : sProp 𝕄) := by
  unfold held hbm
  iintro ⟨⟨Hu, Hx, Hv⟩, -, HSI⟩
  icombine HSI Hx gives %hx
  icombine HSI Hv gives %hv
  imod (Pipeline.unscopedSems0_read (X := unscopedSems0 c) (c := c) fupd_intro s') $$ [Hu HSI] with ⟨%hz, HSI⟩
  · isplitl [Hu] <;> iassumption
  imodintro
  isplitr; · ipureintro; exact ⟨⟨Buf.eq_of_forall_mem_univ hx, Buf.eq_of_forall_mem_univ hv⟩, hz⟩
  iexact HSI

/-- From any memory with every semaphore at zero, the kernel runs to the end on all four devices: the operand is what it
    was, every device's result is `outV`, and every semaphore is zero again. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outV m c) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := Owed₀) (howed₀ := fun _ => rfl) (howedN := fun _ => rfl)
    (L := L) (lv := lv) (hL := L_of_ne)
    (hwaits := fun c => Pipeline.cellsWaits_intro cfgs (dats m) 0 0 c fun w => w.elim0)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := given m) (Y := held m) (Z := fun _ => iprop(emp))
    (hX := given_intro m ρ) (hin := start_intro m) (hout := held_intro m)
    (QY := atEnd m) (hY := held_read m)
    (hQ := fun _ h hs => ⟨fun c => (h c).2.2.1, sem_eq_zero hs fun c => (h c).2.2.2⟩)

end Cert.TwoRound

end
-- ==== Proof.Frames.lean ====
/-
  The frames: the kernel at both readings, and the reference.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

set_option maxRecDepth 16384

noncomputable section

namespace Cert.TwoRound

open Idealize.ShloMosaic Idealize.ShloMosaic.TcCoe Idealize.SL.Sem

/-- The kernel at the hardware's floats: its text is the idealized text's, so the one run serves. -/
theorem frame_kernel : Cert.quiescent_Kernel := fun m ρ _ =>
  (θ_run (Cert.KernelIdeal.defs (F := Bits)) _ _).mono (fun _ h => ⟨fun c => (h.1 c).1, h.2⟩) (run_main (F := Bits) m ρ)

theorem frame_kernelIdeal : Cert.quiescent_KernelIdeal := fun m ρ _ =>
  (θ_run (Cert.KernelIdeal.defs (F := Ideal)) _ _).mono (fun _ h => ⟨fun c => (h.1 c).1, h.2⟩) (run_main (F := Ideal) m ρ)

theorem frame_referenceIdeal : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.TwoRound

end
-- ==== Proof.Value.lean ====
/-
  What the kernel computes, over the reals: every device's result is the reference's sum.
-/
module

public import proofs.«01_k».proof.Proof.Frames
public import Idealize.ShloMosaic.Lib.Layout
public import Idealize.ShloMosaic.Lib.Pointwise.Reduce
public import Idealize.ShloMosaic.Lib.Pointwise.Reshape
public import Idealize.ShloMosaic.PureOps.Ideal.Laws

@[expose] public section

set_option maxRecDepth 16384

noncomputable section

namespace Cert.TwoRound

open Idealize.ShloMosaic Idealize.ShloMosaic.TcCoe Idealize.SL.Sem
/-- The global operand: 8192 rows of 4096 reals. -/
abbrev Whole : Type := (⟨2, ![8192, 4096]⟩ : Shape).Idx → EReal

/-- The entry at row `r` and column `q`. -/
def entry (w : Whole) (r q : ℕ) : EReal := w (ix2 ⟨r % 8192, Nat.mod_lt _ (by decide)⟩ ⟨q % 4096, Nat.mod_lt _ (by decide)⟩)

theorem entry_eq (w : Whole) (i : (⟨2, ![8192, 4096]⟩ : Shape).Idx) (r q : ℕ) (hr : (i 0).val = r) (hq : (i 1).val = q) :
    w i = entry w r q := by
  unfold entry
  congr 1
  have h0 : (i 0).val < 8192 := (i 0).isLt
  have h1 : (i 1).val < 4096 := (i 1).isLt
  funext a; apply Fin.ext
  match a with
  | ⟨0, _⟩ => show (i 0).val = r % 8192; omega
  | ⟨1, _⟩ => show (i 1).val = q % 4096; omega

/-- The sum of the operand's upper and lower halves, at row `r` and column `q`. -/
def halves (w : Whole) (r q : ℕ) : EReal := entry w r q + entry w (4096 + r) q

/-! ## The reference -/

section Reference
open Cert.ReferenceIdeal Cert.ReferenceIdeal.Gen

theorem reference_value (w : Whole) :
    (Host.reduceAdd (F := Ideal) (φ := .f32) (shapeCast _ w shapeCasts_S8192x4096_S2x4096x4096) (constant (F := Ideal) Cert.ReferenceIdeal.S_ .f32 0x00000000#32)
      reducesTo_S2x4096x4096_S4096x4096_d0 h_S_ : (⟨2, ![4096, 4096]⟩ : Shape).Idx → EReal)
      = fun i => halves w (i 0).val (i 1).val := by
  funext i
  refine (Ideal.hostReduceAdd_r3_a0 reducesTo_S2x4096x4096_S4096x4096_d0 (shapeCast _ w shapeCasts_S8192x4096_S2x4096x4096)
    (Ideal.ofBits .f32 0x00000000#32) i).trans ?_
  have h0 : (i 0).val < 4096 := (i 0).isLt
  have h1 : (i 1).val < 4096 := (i 1).isLt
  have hk (k : Fin 2) : shapeCast _ w shapeCasts_S8192x4096_S2x4096x4096 (ix3 k (i 0) (i 1)) = entry w (4096 * k.val + (i 0).val) (i 1).val := by
    rw [Pointwise.shapeCast_apply, Shape.reshapeEquiv_eq_of_vals _ _
      (ix2 ⟨4096 * k.val + (i 0).val, by have := k.isLt; omega⟩ (i 1) : (⟨2, ![8192, 4096]⟩ : Shape).Idx) _ _
      (rowMajor_val2 _ 4096 rfl) (rowMajor_val3 _ (4096 * 4096) 4096 rfl rfl)
      (by show (4096 * k.val + (i 0).val) * 4096 + (i 1).val = k.val * (4096 * 4096) + (i 0).val * 4096 + (i 1).val; ring)]
    exact entry_eq w _ _ _ rfl rfl
  rw [Ideal.ofBits_zero_f32, zero_add, Fin.sum_univ_two]
  refine congrArg₂ (· + ·) ((hk 0).trans ?_) (hk 1)
  show entry w (4096 * 0 + (i 0).val) _ = _
  rw [Nat.mul_zero, Nat.zero_add]

end Reference

/-! ## The kernel -/

open Cert.KernelIdeal Cert.KernelIdeal.Gen

theorem xn_row (c : Dev nD) : (xn c).val / 2 % 2 = 1 - c.val / 2 % 2 := by revert c; decide
theorem xn_col (c : Dev nD) : (xn c).val % 2 = c.val % 2 := by revert c; decide
theorem yn_col (c : Dev nD) : (yn c).val % 2 = 1 - c.val % 2 := by revert c; decide

section Kernel
variable (m : (ℓ : Loc nD τ sig) → Buf (Elt Ideal) ℓ) (w : Whole)
variable (hm : ∀ c : Dev nD, m ((c.tc : Thread nD τ).loc main_arg0)
  = Layout.blockN ⟨2, ![4096, 2048]⟩ ⟨2, ![8192, 4096]⟩ (Layout.meshBlock [2, 2] ![[0], [1]] c) w)
include hm

/-- A device's block of the operand. -/
theorem block_value (c : Dev nD) (i : S4096x2048.Idx) :
    (X m c : S4096x2048.Idx → EReal) i = entry w (4096 * (c.val / 2 % 2) + (i 0).val) (2048 * (c.val % 2) + (i 1).val) := by
  have e : (X m c : S4096x2048.Idx → EReal) i = w (Layout.TilesN.idx _ (Layout.meshBlock [2, 2] ![[0], [1]] c) i) := congrFun (hm c) i
  rw [e]
  have hr : ((Layout.meshBlock [2, 2] ![[0], [1]] c) 0).val = c.val / 2 % 2 := by clear e; revert c; decide
  have hq : ((Layout.meshBlock [2, 2] ![[0], [1]] c) 1).val = c.val % 2 := by clear e; revert c; decide
  refine entry_eq w _ _ _ ?_ ?_
  · rw [Layout.TilesN.idx_val]; show ((Layout.meshBlock [2, 2] ![[0], [1]] c) 0).val * 4096 + (i 0).val = _; rw [hr]; ring
  · rw [Layout.TilesN.idx_val]; show ((Layout.meshBlock [2, 2] ![[0], [1]] c) 1).val * 2048 + (i 1).val = _; rw [hq]; ring

/-- A chunk of a device's block. -/
theorem chunk_value (c : Dev nD) (k : ℕ) (hk : k < 8) (i : S512x2048.Idx) :
    (chunk m c k : S512x2048.Idx → EReal) i
      = entry w (4096 * (c.val / 2 % 2) + (512 * k + (i 0).val)) (2048 * (c.val % 2) + (i 1).val) := by
  have e0 : (((xRow (rw8 k)).view.emb i : S4096x2048.Idx) 0).val = 512 * k + (i 0).val := by
    show 512 * (k % 8) + 1 * (i 0).val = _; omega
  have e1 : (((xRow (rw8 k)).view.emb i : S4096x2048.Idx) 1).val = (i 1).val := by
    show 0 + 1 * (i 1).val = _; omega
  have e : (chunk m c k : S512x2048.Idx → EReal) i = (X m c : S4096x2048.Idx → EReal) ((xRow (rw8 k)).view.emb i) := by
    unfold chunk; rw [View.read_apply]; rfl
  rw [e, block_value m w hm, e0, e1]

/-- Two row neighbours' chunks add up to both halves, whichever of the two adds. -/
theorem psum_value (c : Dev nD) (k : ℕ) (hk : k < 8) (i : S512x2048.Idx) :
    (psumAt m c k : S512x2048.Idx → EReal) i = halves w (512 * k + (i 0).val) (2048 * (c.val % 2) + (i 1).val) := by
  have e : (psumAt m c k : S512x2048.Idx → EReal) i
      = (chunk m c k : S512x2048.Idx → EReal) i + (chunk m (xn c) k : S512x2048.Idx → EReal) i := rfl
  rw [e, chunk_value m w hm c k hk, chunk_value m w hm (xn c) k hk, xn_row, xn_col]
  unfold halves
  rcases Nat.mod_two_eq_zero_or_one (c.val / 2) with h | h <;> rw [h]
  · simp only [Nat.mul_zero, Nat.zero_add, Nat.sub_zero, Nat.mul_one]
  · simp only [Nat.sub_self, Nat.mul_zero, Nat.zero_add, Nat.mul_one]; exact add_comm _ _

/-- Every device's result. -/
theorem out_value (c : Dev nD) :
    (outV m c : S4096x4096.Idx → EReal) = fun i => halves w (i 0).val (i 1).val := by
  funext i
  have h0 : (i 0).val < 4096 := (i 0).isLt
  have h1 : (i 1).val < 4096 := (i 1).isLt
  have hk : (i 0).val / 512 < 8 := by omega
  have hr : ((inHalf (inChunk i)) 0).val = (i 0).val % 512 := rfl
  have hq : ((inHalf (inChunk i)) 1).val = (i 1).val % 2048 := rfl
  have hh : halfOf (inChunk i) = (i 1).val / 2048 := rfl
  have er : 512 * ((i 0).val / 512) + (i 0).val % 512 = (i 0).val := by omega
  have key (d : Dev nD) (hd : d.val % 2 = (i 1).val / 2048) :
      (psumAt m d ((i 0).val / 512) : S512x2048.Idx → EReal) (inHalf (inChunk i)) = halves w (i 0).val (i 1).val := by
    rw [psum_value m w hm d _ hk, hr, hq, er, hd]
    congr 1; omega
  show (if halfOf (inChunk i) = c.val % 2 then (psumAt m c ((i 0).val / 512) : S512x2048.Idx → EReal) (inHalf (inChunk i))
    else (psumAt m (yn c) ((i 0).val / 512) : S512x2048.Idx → EReal) (inHalf (inChunk i))) = _
  rw [hh]
  by_cases h : (i 1).val / 2048 = c.val % 2
  · rw [if_pos h]; exact key c h.symm
  · rw [if_neg h]
    exact key (yn c) (by rw [yn_col]; omega)

end Kernel

/-- Every device's result is the reference's, over the reals. -/
theorem algebraic : Cert.algebraic_KernelIdeal_ReferenceIdeal := fun m ρ m' ρ' _ hm => by
  refine ⟨fun i => halves (m' (((0 : Dev Cert.ReferenceIdeal.nD).tc : Thread Cert.ReferenceIdeal.nD Cert.ReferenceIdeal.τ).loc Cert.ReferenceIdeal.main_arg0)) (i 0).val (i 1).val, ?_, ?_⟩
  · exact (θ_run (Cert.KernelIdeal.defs (F := Ideal)) _ _).mono
      (fun _ h c => ⟨(h.1 c).2.trans (out_value m _ hm c), (h.1 c).1⟩) (run_main (F := Ideal) m ρ)
  · exact (θ_run (Cert.ReferenceIdeal.defs (F := Ideal)) _ _).mono
      (fun _ h => ⟨(h 0).1.trans (reference_value _), (h 0).2⟩) (Cert.ReferenceIdeal.Value.run (F := Ideal) m' ρ')

end Cert.TwoRound

end
-- ==== Proof.lean ====
/-
  The certificate: the kernel's run on the four devices gives its frames and its value, the reference's run its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the kernel, of its idealization and of the reference; that the idealization is the kernel's own text;
    and that over the reals every device's result is the reference's. -/
theorem claim : Cert.Claim := ⟨Cert.Kernel.Gen.facts, Cert.KernelIdeal.Gen.facts, Cert.ReferenceIdeal.Gen.facts,
  Cert.TwoRound.frame_kernel, Cert.TwoRound.frame_kernelIdeal, Cert.TwoRound.frame_referenceIdeal, trivial, Cert.TwoRound.algebraic⟩

end Cert.Proof

end
